-- ==== Defs.lean ====
def Pre_Kernel [hPre_index_in_table : Cert.Pre_index_in_table.Facts] (m : (ℓ : Loc Cert.Kernel.nD Cert.Kernel.τ Cert.Kernel.sig) → Buf (Elt Bits) ℓ) : Prop :=
  ∀ c : Dev Cert.Kernel.nD,
    (Cert.Pre_index_in_table.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_Kernel_depth_and_index_in_range [hPre_depth_and_index_in_range : Cert.Pre_depth_and_index_in_range.Facts] (m : (ℓ : Loc Cert.Kernel.nD Cert.Kernel.τ Cert.Kernel.sig) → Buf (Elt Bits) ℓ) : Prop :=
  ∀ c : Dev Cert.Kernel.nD,
    (Cert.Pre_depth_and_index_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))).1 = (fun _ => 1#1)
    ∧ (Cert.Pre_depth_and_index_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))).2 = (fun _ => 1#1)

def Pre_KernelIdeal [hPre_depth_in_range : Cert.Pre_depth_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_depth_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_KernelIdeal_depth_and_index_in_range [hPre_depth_and_index_in_range : Cert.Pre_depth_and_index_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_depth_and_index_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_depth_and_index_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_KernelIdeal_layered [hPre_layered : Cert.Pre_layered.Facts] (m : (ℓ : Loc Cert.KernelIdeal.nD Cert.KernelIdeal.τ Cert.KernelIdeal.sig) → Buf (Elt Ideal) ℓ) : Prop :=
  ∀ c : Dev Cert.KernelIdeal.nD,
    (Cert.Pre_layered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_layered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_layered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.1 = (fun _ => 1#1)
    ∧ (Cert.Pre_layered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_layered [hPre_layered : Cert.Pre_layered.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_layered.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_layered.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_layered.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.1 = (fun _ => 1#1)
    ∧ (Cert.Pre_layered.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2 = (fun _ => 1#1)

def quiescent_Kernel [hKernel : Cert.Kernel.Facts] [hPre_index_in_table : Cert.Pre_index_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_Kernel_pre_depth_and_index_in_range [hKernel : Cert.Kernel.Facts] [hPre_depth_and_index_in_range : Cert.Pre_depth_and_index_in_range.Facts] : Prop :=
  ∀ (m : (ℓ : Loc Cert.Kernel.nD Cert.Kernel.τ Cert.Kernel.sig) → Buf (Elt Bits) ℓ) (g : Dev Cert.Kernel.nD → PrngReg), Pre_Kernel_depth_and_index_in_range m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_depth_in_range : Cert.Pre_depth_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_depth_and_index_in_range [hKernelIdeal : Cert.KernelIdeal.Facts] [hPre_depth_and_index_in_range : Cert.Pre_depth_and_index_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_depth_and_index_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_layered [hKernelIdeal : Cert.KernelIdeal.Facts] [hPre_layered : Cert.Pre_layered.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_layered m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_layered [hReferenceIdeal : Cert.ReferenceIdeal.Facts] [hPre_layered : Cert.Pre_layered.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_layered m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "per_50" .f32 0x3CA3D70A#32 ((1 / 50 : ℝ) : EReal)

def algebraic_KernelIdeal_ReferenceIdeal_pre_layered [hKernelIdeal : Cert.KernelIdeal.Facts] [hReferenceIdeal : Cert.ReferenceIdeal.Facts] [hPre_layered : Cert.Pre_layered.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_layered m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_index_in_table : Cert.Pre_index_in_table.Facts) (hPre_depth_and_index_in_range : Cert.Pre_depth_and_index_in_range.Facts) (hPre_depth_in_range : Cert.Pre_depth_in_range.Facts) (hPre_layered : Cert.Pre_layered.Facts),
    quiescent_Kernel (hKernel := hKernel) (hPre_index_in_table := hPre_index_in_table)
    ∧ quiescent_Kernel_pre_depth_and_index_in_range (hKernel := hKernel) (hPre_depth_and_index_in_range := hPre_depth_and_index_in_range)
    ∧ quiescent_KernelIdeal (hKernelIdeal := hKernelIdeal) (hPre_depth_in_range := hPre_depth_in_range)
    ∧ quiescent_KernelIdeal_pre_depth_and_index_in_range (hKernelIdeal := hKernelIdeal) (hPre_depth_and_index_in_range := hPre_depth_and_index_in_range)
    ∧ quiescent_KernelIdeal_pre_layered (hKernelIdeal := hKernelIdeal) (hPre_layered := hPre_layered)
    ∧ quiescent_ReferenceIdeal (hReferenceIdeal := hReferenceIdeal)
    ∧ quiescent_ReferenceIdeal_pre_layered (hReferenceIdeal := hReferenceIdeal) (hPre_layered := hPre_layered)
    ∧ preserves_Kernel_KernelIdeal
    ∧ algebraic_KernelIdeal_ReferenceIdeal_pre_layered (hKernelIdeal := hKernelIdeal) (hReferenceIdeal := hReferenceIdeal) (hPre_layered := hPre_layered)
-- ==== Pre_depth_and_index_in_range.lean ====
abbrev S8388608x3 : Shape := ⟨2, ![8388608, 3]⟩
abbrev S10 : Shape := ⟨1, ![10]⟩
abbrev S8388608x1 : Shape := ⟨2, ![8388608, 1]⟩
abbrev S8388608 : Shape := ⟨1, ![8388608]⟩
abbrev S_ : Shape := ⟨0, ![]⟩

class Facts : Prop where
  slices_S8388608x3_S8388608x1_0_2 : S8388608x3.Slices ![0, 2] S8388608x1
  shapeCasts_S8388608x1_S8388608 : S8388608x1.ShapeCasts S8388608
  bcast_S_S8388608 : S_.BroadcastsInDim S8388608 (![] : Fin 0 → Fin S8388608.rank)

variable [Facts]

def fn {F : FTy → Type} [FloatOps F] (main_arg0 : FVec F S8388608x3 .f32) (main_arg1 : FVec F S10 .f32) (main_arg2 : FVec F S10 .f32) : IVec S8388608 1 × IVec S8388608 1 :=
  let main_v0 : FVec F S8388608x1 .f32 := (extractStridedSlice S8388608x1 ![0, 2] · slices_S8388608x3_S8388608x1_0_2) main_arg0
  let main_v1 : FVec F S8388608 .f32 := shapeCast S8388608 main_v0 shapeCasts_S8388608x1_S8388608
  let main_cst : FVec F S_ .f32 := constant S_ .f32 0x3CA3D70A#32
  let main_v2 : FVec F S8388608 .f32 := broadcastInDim S8388608 ![] bcast_S_S8388608 main_cst
  let main_v3 : FVec F S8388608 .f32 := mulf main_v1 main_v2
  let main_v4 : IVec S8388608 32 := fptosi 32 main_v3
  let main_c : IVec S_ 32 := constantI S_ 32 0#32
  let main_v5 : IVec S8388608 32 := broadcastInDim S8388608 ![] bcast_S_S8388608 main_c
  let main_v6 : IVec S8388608 1 := cmpi .sge main_v4 main_v5
  let main_c_0 : IVec S_ 32 := constantI S_ 32 80#32
  let main_v7 : IVec S8388608 32 := broadcastInDim S8388608 ![] bcast_S_S8388608 main_c_0
  let main_v8 : IVec S8388608 1 := cmpi .slt main_v4 main_v7
  let main_v9 : IVec S8388608 1 := andi main_v6 main_v8
  let main_v10 : FVec F S8388608x1 .f32 := (extractStridedSlice S8388608x1 ![0, 2] · slices_S8388608x3_S8388608x1_0_2) main_arg0
  let main_v11 : FVec F S8388608 .f32 := shapeCast S8388608 main_v10 shapeCasts_S8388608x1_S8388608
  let main_cst_1 : FVec F S_ .f32 := constant S_ .f32 0x00000000#32
  let main_v12 : FVec F S8388608 .f32 := broadcastInDim S8388608 ![] bcast_S_S8388608 main_cst_1
  let main_v13 : IVec S8388608 1 := cmpf .oge main_v11 main_v12
  let main_cst_2 : FVec F S_ .f32 := constant S_ .f32 0x457A0000#32
  let main_v14 : FVec F S8388608 .f32 := broadcastInDim S8388608 ![] bcast_S_S8388608 main_cst_2
  let main_v15 : IVec S8388608 1 := cmpf .olt main_v11 main_v14
  let main_v16 : IVec S8388608 1 := andi main_v13 main_v15
  (main_v9, main_v16)
-- ==== Pre_depth_in_range.lean ====
abbrev S8388608x3 : Shape := ⟨2, ![8388608, 3]⟩
abbrev S10 : Shape := ⟨1, ![10]⟩
abbrev S8388608x1 : Shape := ⟨2, ![8388608, 1]⟩
abbrev S8388608 : Shape := ⟨1, ![8388608]⟩
abbrev S_ : Shape := ⟨0, ![]⟩

class Facts : Prop where
  slices_S8388608x3_S8388608x1_0_2 : S8388608x3.Slices ![0, 2] S8388608x1
  shapeCasts_S8388608x1_S8388608 : S8388608x1.ShapeCasts S8388608
  bcast_S_S8388608 : S_.BroadcastsInDim S8388608 (![] : Fin 0 → Fin S8388608.rank)

variable [Facts]

def fn {F : FTy → Type} [FloatOps F] (main_arg0 : FVec F S8388608x3 .f32) (main_arg1 : FVec F S10 .f32) (main_arg2 : FVec F S10 .f32) : IVec S8388608 1 :=
  let main_v0 : FVec F S8388608x1 .f32 := (extractStridedSlice S8388608x1 ![0, 2] · slices_S8388608x3_S8388608x1_0_2) main_arg0
  let main_v1 : FVec F S8388608 .f32 := shapeCast S8388608 main_v0 shapeCasts_S8388608x1_S8388608
  let main_cst : FVec F S_ .f32 := constant S_ .f32 0x00000000#32
  let main_v2 : FVec F S8388608 .f32 := broadcastInDim S8388608 ![] bcast_S_S8388608 main_cst
  let main_v3 : IVec S8388608 1 := cmpf .oge main_v1 main_v2
  let main_cst_0 : FVec F S_ .f32 := constant S_ .f32 0x457A0000#32
  let main_v4 : FVec F S8388608 .f32 := broadcastInDim S8388608 ![] bcast_S_S8388608 main_cst_0
  let main_v5 : IVec S8388608 1 := cmpf .olt main_v1 main_v4
  let main_v6 : IVec S8388608 1 := andi main_v3 main_v5
  main_v6
-- ==== Pre_index_in_table.lean ====
abbrev S8388608x3 : Shape := ⟨2, ![8388608, 3]⟩
abbrev S10 : Shape := ⟨1, ![10]⟩
abbrev S8388608x1 : Shape := ⟨2, ![8388608, 1]⟩
abbrev S8388608 : Shape := ⟨1, ![8388608]⟩
abbrev S_ : Shape := ⟨0, ![]⟩

class Facts : Prop where
  slices_S8388608x3_S8388608x1_0_2 : S8388608x3.Slices ![0, 2] S8388608x1
  shapeCasts_S8388608x1_S8388608 : S8388608x1.ShapeCasts S8388608
  bcast_S_S8388608 : S_.BroadcastsInDim S8388608 (![] : Fin 0 → Fin S8388608.rank)

variable [Facts]

def fn {F : FTy → Type} [FloatOps F] (main_arg0 : FVec F S8388608x3 .f32) (main_arg1 : FVec F S10 .f32) (main_arg2 : FVec F S10 .f32) : IVec S8388608 1 :=
  let main_v0 : FVec F S8388608x1 .f32 := (extractStridedSlice S8388608x1 ![0, 2] · slices_S8388608x3_S8388608x1_0_2) main_arg0
  let main_v1 : FVec F S8388608 .f32 := shapeCast S8388608 main_v0 shapeCasts_S8388608x1_S8388608
  let main_cst : FVec F S_ .f32 := constant S_ .f32 0x3CA3D70A#32
  let main_v2 : FVec F S8388608 .f32 := broadcastInDim S8388608 ![] bcast_S_S8388608 main_cst
  let main_v3 : FVec F S8388608 .f32 := mulf main_v1 main_v2
  let main_v4 : IVec S8388608 32 := fptosi 32 main_v3
  let main_c : IVec S_ 32 := constantI S_ 32 0#32
  let main_v5 : IVec S8388608 32 := broadcastInDim S8388608 ![] bcast_S_S8388608 main_c
  let main_v6 : IVec S8388608 1 := cmpi .sge main_v4 main_v5
  let main_c_0 : IVec S_ 32 := constantI S_ 32 80#32
  let main_v7 : IVec S8388608 32 := broadcastInDim S8388608 ![] bcast_S_S8388608 main_c_0
  let main_v8 : IVec S8388608 1 := cmpi .slt main_v4 main_v7
  let main_v9 : IVec S8388608 1 := andi main_v6 main_v8
  main_v9
-- ==== Pre_layered.lean ====
abbrev S8388608x3 : Shape := ⟨2, ![8388608, 3]⟩
abbrev S10 : Shape := ⟨1, ![10]⟩
abbrev S8388608x1 : Shape := ⟨2, ![8388608, 1]⟩
abbrev S8388608 : Shape := ⟨1, ![8388608]⟩
abbrev S9 : Shape := ⟨1, ![9]⟩
abbrev S_ : Shape := ⟨0, ![]⟩
abbrev S8 : Shape := ⟨1, ![8]⟩

class Facts : Prop where
  slices_S8388608x3_S8388608x1_0_2 : S8388608x3.Slices ![0, 2] S8388608x1
  shapeCasts_S8388608x1_S8388608 : S8388608x1.ShapeCasts S8388608
  slices_S10_S9_0 : S10.Slices ![0] S9
  bcast_S_S8388608 : S_.BroadcastsInDim S8388608 (![] : Fin 0 → Fin S8388608.rank)
  slices_S10_S8_0 : S10.Slices ![0] S8
  slices_S10_S8_1 : S10.Slices ![1] S8
  bcast_S_S9 : S_.BroadcastsInDim S9 (![] : Fin 0 → Fin S9.rank)
  bcast_S_S10 : S_.BroadcastsInDim S10 (![] : Fin 0 → Fin S10.rank)

variable [Facts]

def fn_part1 {F : FTy → Type} [FloatOps F] (main_v7 : IVec S8388608 1) (main_v10 : IVec S8 1) (main_v16 : IVec S9 1) (main_v17 : FVec F S10 .f32) (main_v18 : FVec F S10 .f32) : IVec S8388608 1 × IVec S8 1 × IVec S9 1 × IVec S10 1 :=
  let main_v19 : IVec S10 1 := cmpf .olt main_v17 main_v18
  (main_v7, main_v10, main_v16, main_v19)

def fn {F : FTy → Type} [FloatOps F] (main_arg0 : FVec F S8388608x3 .f32) (main_arg1 : FVec F S10 .f32) (main_arg2 : FVec F S10 .f32) : IVec S8388608 1 × IVec S8 1 × IVec S9 1 × IVec S10 1 :=
  let main_v0 : FVec F S8388608x1 .f32 := (extractStridedSlice S8388608x1 ![0, 2] · slices_S8388608x3_S8388608x1_0_2) main_arg0
  let main_v1 : FVec F S8388608 .f32 := shapeCast S8388608 main_v0 shapeCasts_S8388608x1_S8388608
  let main_v2 : FVec F S9 .f32 := (extractStridedSlice S9 ![0] · slices_S10_S9_0) main_arg2
  let main_cst : FVec F S_ .f32 := constant S_ .f32 0x00000000#32
  let main_v3 : FVec F S8388608 .f32 := broadcastInDim S8388608 ![] bcast_S_S8388608 main_cst
  let main_v4 : IVec S8388608 1 := cmpf .oge main_v1 main_v3
  let main_cst_0 : FVec F S_ .f32 := constant S_ .f32 0x457A0000#32
  let main_v5 : FVec F S8388608 .f32 := broadcastInDim S8388608 ![] bcast_S_S8388608 main_cst_0
  let main_v6 : IVec S8388608 1 := cmpf .olt main_v1 main_v5
  let main_v7 : IVec S8388608 1 := andi main_v4 main_v6
  let main_v8 : FVec F S8 .f32 := (extractStridedSlice S8 ![0] · slices_S10_S8_0) main_arg2
  let main_v9 : FVec F S8 .f32 := (extractStridedSlice S8 ![1] · slices_S10_S8_1) main_arg2
  let main_v10 : IVec S8 1 := cmpf .ole main_v8 main_v9
  let main_cst_1 : FVec F S_ .f32 := constant S_ .f32 0x42480000#32
  let main_v11 : FVec F S9 .f32 := broadcastInDim S9 ![] bcast_S_S9 main_cst_1
  let main_v12 : FVec F S9 .f32 := Host.divf main_v2 main_v11
  let main_v13 : FVec F S9 .f32 := Host.floor main_v12
  let main_cst_2 : FVec F S_ .f32 := constant S_ .f32 0x42480000#32
  let main_v14 : FVec F S9 .f32 := broadcastInDim S9 ![] bcast_S_S9 main_cst_2
  let main_v15 : FVec F S9 .f32 := mulf main_v13 main_v14
  let main_v16 : IVec S9 1 := cmpf .oeq main_v15 main_v2
  let main_v17 : FVec F S10 .f32 := Host.absf main_arg1
  let main_cst_3 : FVec F S_ .f32 := constant S_ .f32 0x7F800000#32
  let main_v18 : FVec F S10 .f32 := broadcastInDim S10 ![] bcast_S_S10 main_cst_3
  fn_part1 (F := F) main_v7 main_v10 main_v16 main_v17 main_v18
-- ==== Kernel.lean ====
abbrev S8388608x3 : Shape := ⟨2, ![8388608, 3]⟩
abbrev S10 : Shape := ⟨1, ![10]⟩
abbrev S8388608x1 : Shape := ⟨2, ![8388608, 1]⟩
abbrev S8388608 : Shape := ⟨1, ![8388608]⟩
abbrev S16384 : Shape := ⟨1, ![16384]⟩
abbrev S16 : Shape := ⟨1, ![16]⟩
abbrev S80 : Shape := ⟨1, ![80]⟩
abbrev S_ : Shape := ⟨0, ![]⟩
abbrev S1 : Shape := ⟨1, ![1]⟩

abbrev nBuf : Table → Nat
  | .hbm => 6
  | .local .scVector .vmem => 7
  | _ => 0

abbrev bufTy : (tb : Table) → Fin (nBuf tb) → BufTy
  | .hbm, ⟨0, _⟩ => ⟨S8388608x3, .f32⟩
  | .hbm, ⟨1, _⟩ => ⟨S10, .f32⟩
  | .hbm, ⟨2, _⟩ => ⟨S10, .f32⟩
  | .hbm, ⟨3, _⟩ => ⟨S8388608x1, .f32⟩
  | .hbm, ⟨4, _⟩ => ⟨S8388608, .f32⟩
  | .hbm, ⟨5, _⟩ => ⟨S8388608, .f32⟩
  | .local .scVector .vmem, ⟨0, _⟩ => ⟨S16384, .f32⟩
  | .local .scVector .vmem, ⟨1, _⟩ => ⟨S16384, .f32⟩
  | .local .scVector .vmem, ⟨2, _⟩ => ⟨S16384, .f32⟩
  | .local .scVector .vmem, ⟨3, _⟩ => ⟨S16384, .f32⟩
  | .local .scVector .vmem, ⟨4, _⟩ => ⟨S16, .f32⟩
  | .local .scVector .vmem, ⟨5, _⟩ => ⟨S16, .f32⟩
  | .local .scVector .vmem, ⟨6, _⟩ => ⟨S80, .f32⟩
  | _, _ => ⟨S8388608x3, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v1_scv : Ref sig .scVector := ⟨.hbm, 4, rfl⟩
abbrev main_arg1_scv : Ref sig .scVector := ⟨.hbm, 1, rfl⟩
abbrev main_arg2_scv : Ref sig .scVector := ⟨.hbm, 2, rfl⟩
abbrev main_v2_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32_6 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v590 : BitVec 32 := Scalar.addi c0_i32_6 v1
  let c16384_i32 : BitVec 32 := 16384#32
  let v591 : BitVec 32 := Scalar.muli v590 c16384_i32
  ![v591.toNat]
@[reducible] def k0_t1_loop : Scf.Loop 32 :=
  let c0_i32_10 : BitVec 32 := 0#32
  let c8_i32 : BitVec 32 := 8#32
  let v598 : BitVec 32 := Scalar.addi c0_i32_10 c8_i32
  let c1_i32 : BitVec 32 := 1#32
  ⟨c0_i32_10, v598, c1_i32⟩
def k0_off2 (i : grid0.Coords) : Fin 1 → Nat :=
  let c0_i32_18 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v610 : BitVec 32 := Scalar.addi c0_i32_18 v1
  let c16384_i32_19 : BitVec 32 := 16384#32
  let v611 : BitVec 32 := Scalar.muli v610 c16384_i32_19
  ![v611.toNat]
def k0_cond1 (k0_t1 : Fin k0_t1_loop.trips) : BitVec 1 :=
  let c0_i32_10 : BitVec 32 := 0#32
  let c1_i32 : BitVec 32 := 1#32
  let arg17 : BitVec 32 := Scf.iv c0_i32_10 c1_i32 k0_t1
  let c1_i32_20 : BitVec 32 := 1#32
  let v614 : BitVec 1 := Scalar.cmpi .sge arg17 c1_i32_20
  let v615 : BitVec 32 := Scalar.extui v614
  let c0_i32_21 : BitVec 32 := 0#32
  let v616 : BitVec 1 := Scalar.cmpi .ne v615 c0_i32_21
  v616

def k0_off3 (i : grid0.Coords) : Fin 1 → Nat :=
  let c0_i32_45 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v646 : BitVec 32 := Scalar.addi c0_i32_45 v1
  let c16384_i32_46 : BitVec 32 := 16384#32
  let v647 : BitVec 32 := Scalar.muli v646 c16384_i32_46
  ![v647.toNat]
@[reducible] def k0_t2_loop : Scf.Loop 32 :=
  let c0_i32_23 : BitVec 32 := 0#32
  let c1024_i32 : BitVec 32 := 1024#32
  let v617 : BitVec 32 := Scalar.addi c0_i32_23 c1024_i32
  let c1_i32_24 : BitVec 32 := 1#32
  ⟨c0_i32_23, v617, c1_i32_24⟩
def k0_off4 (k0_t2 : Fin k0_t2_loop.trips) : Fin 1 → Nat :=
  let c0_i32_23 : BitVec 32 := 0#32
  let c1_i32_24 : BitVec 32 := 1#32
  let arg19 : BitVec 32 := Scf.iv c0_i32_23 c1_i32_24 k0_t2
  let c16_i32_45 : BitVec 32 := 16#32
  let v646 : BitVec 32 := Scalar.muli arg19 c16_i32_45
  let v647 : Index := Scalar.indexCast v646
  ![v647.toNat]

def k0_chk1 (v651 : IVec S16 32) : Prop :=
  (∀ a x, ((![v651] : Fin 1 → IVec S16 32) a x).toNat < S80.size a)
theorem k0_idx1_inb : ∀ (v651 : IVec S16 32) (k0_hw1 : k0_chk1 v651), ∀ a x, ((![v651] : Fin 1 → IVec S16 32) a x).toNat < S80.size a := fun v651 k0_hw1 => k0_hw1
def k0_off5 (k0_t2 : Fin k0_t2_loop.trips) : Fin 1 → Nat :=
  let c0_i32_23 : BitVec 32 := 0#32
  let c1_i32_24 : BitVec 32 := 1#32
  let arg19 : BitVec 32 := Scf.iv c0_i32_23 c1_i32_24 k0_t2
  let c16_i32_47 : BitVec 32 := 16#32
  let v653 : BitVec 32 := Scalar.muli arg19 c16_i32_47
  let v654 : Index := Scalar.indexCast v653
  ![v654.toNat]
def k0_off6 (i : grid0.Coords) (k0_t1 : Fin k0_t1_loop.trips) (c0_i32_17 : BitVec 32) : Fin 1 → Nat :=
  let c2_i32_16 : BitVec 32 := 2#32
  let c0_i32_10 : BitVec 32 := 0#32
  let c1_i32 : BitVec 32 := 1#32
  let arg17 : BitVec 32 := Scf.iv c0_i32_10 c1_i32 k0_t1
  let v608 : BitVec 32 := Scalar.muli c2_i32_16 arg17
  let v609 : BitVec 32 := Scalar.addi v608 c0_i32_17
  let c32_i32_26 : BitVec 32 := 32#32
  let v619 : BitVec 32 := Scalar.muli v609 c32_i32_26
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v620 : BitVec 32 := Scalar.addi v619 v1
  let c16384_i32_27 : BitVec 32 := 16384#32
  let v621 : BitVec 32 := Scalar.muli v620 c16384_i32_27
  ![v621.toNat]
def k0_cond2 (k0_t1 : Fin k0_t1_loop.trips) : BitVec 1 :=
  let c0_i32_10 : BitVec 32 := 0#32
  let c1_i32 : BitVec 32 := 1#32
  let arg17 : BitVec 32 := Scf.iv c0_i32_10 c1_i32 k0_t1
  let c7_i32 : BitVec 32 := 7#32
  let v624 : BitVec 1 := Scalar.cmpi .slt arg17 c7_i32
  let v625 : BitVec 32 := Scalar.extui v624
  let c0_i32_28 : BitVec 32 := 0#32
  let v626 : BitVec 1 := Scalar.cmpi .ne v625 c0_i32_28
  v626

def k0_off7 (i : grid0.Coords) (k0_t1 : Fin k0_t1_loop.trips) : Fin 1 → Nat :=
  let c2_i32_16 : BitVec 32 := 2#32
  let c0_i32_10 : BitVec 32 := 0#32
  let c1_i32 : BitVec 32 := 1#32
  let arg17 : BitVec 32 := Scf.iv c0_i32_10 c1_i32 k0_t1
  let v608 : BitVec 32 := Scalar.muli c2_i32_16 arg17
  let c0_i32_17 : BitVec 32 := 0#32
  let v609 : BitVec 32 := Scalar.addi v608 c0_i32_17
  let c2_i32_45 : BitVec 32 := 2#32
  let v646 : BitVec 32 := Scalar.addi v609 c2_i32_45
  let c32_i32_46 : BitVec 32 := 32#32
  let v647 : BitVec 32 := Scalar.muli v646 c32_i32_46
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v648 : BitVec 32 := Scalar.addi v647 v1
  let c16384_i32_47 : BitVec 32 := 16384#32
  let v649 : BitVec 32 := Scalar.muli v648 c16384_i32_47
  ![v649.toNat]
def k0_cond3 (k0_t1 : Fin k0_t1_loop.trips) : BitVec 1 :=
  let c0_i32_10 : BitVec 32 := 0#32
  let c1_i32 : BitVec 32 := 1#32
  let arg17 : BitVec 32 := Scf.iv c0_i32_10 c1_i32 k0_t1
  let c1_i32_33 : BitVec 32 := 1#32
  let v633 : BitVec 1 := Scalar.cmpi .sge arg17 c1_i32_33
  let v634 : BitVec 32 := Scalar.extui v633
  let c0_i32_34 : BitVec 32 := 0#32
  let v635 : BitVec 1 := Scalar.cmpi .ne v634 c0_i32_34
  v635

def k0_off8 (i : grid0.Coords) : Fin 1 → Nat :=
  let c0_i32_45 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v646 : BitVec 32 := Scalar.addi c0_i32_45 v1
  let c16384_i32_46 : BitVec 32 := 16384#32
  let v647 : BitVec 32 := Scalar.muli v646 c16384_i32_46
  ![v647.toNat]
@[reducible] def k0_t3_loop : Scf.Loop 32 :=
  let c0_i32_36 : BitVec 32 := 0#32
  let c1024_i32_37 : BitVec 32 := 1024#32
  let v636 : BitVec 32 := Scalar.addi c0_i32_36 c1024_i32_37
  let c1_i32_38 : BitVec 32 := 1#32
  ⟨c0_i32_36, v636, c1_i32_38⟩
def k0_off9 (k0_t3 : Fin k0_t3_loop.trips) : Fin 1 → Nat :=
  let c0_i32_36 : BitVec 32 := 0#32
  let c1_i32_38 : BitVec 32 := 1#32
  let arg19 : BitVec 32 := Scf.iv c0_i32_36 c1_i32_38 k0_t3
  let c16_i32_45 : BitVec 32 := 16#32
  let v646 : BitVec 32 := Scalar.muli arg19 c16_i32_45
  let v647 : Index := Scalar.indexCast v646
  ![v647.toNat]

def k0_chk2 (v651 : IVec S16 32) : Prop :=
  (∀ a x, ((![v651] : Fin 1 → IVec S16 32) a x).toNat < S80.size a)
theorem k0_idx2_inb : ∀ (v651 : IVec S16 32) (k0_hw2 : k0_chk2 v651), ∀ a x, ((![v651] : Fin 1 → IVec S16 32) a x).toNat < S80.size a := fun v651 k0_hw2 => k0_hw2
def k0_off10 (k0_t3 : Fin k0_t3_loop.trips) : Fin 1 → Nat :=
  let c0_i32_36 : BitVec 32 := 0#32
  let c1_i32_38 : BitVec 32 := 1#32
  let arg19 : BitVec 32 := Scf.iv c0_i32_36 c1_i32_38 k0_t3
  let c16_i32_47 : BitVec 32 := 16#32
  let v653 : BitVec 32 := Scalar.muli arg19 c16_i32_47
  let v654 : Index := Scalar.indexCast v653
  ![v654.toNat]
def k0_cond4 (k0_t1 : Fin k0_t1_loop.trips) : BitVec 1 :=
  let c0_i32_10 : BitVec 32 := 0#32
  let c1_i32 : BitVec 32 := 1#32
  let arg17 : BitVec 32 := Scf.iv c0_i32_10 c1_i32 k0_t1
  let c7_i32_42 : BitVec 32 := 7#32
  let v643 : BitVec 1 := Scalar.cmpi .slt arg17 c7_i32_42
  let v644 : BitVec 32 := Scalar.extui v643
  let c0_i32_43 : BitVec 32 := 0#32
  let v645 : BitVec 1 := Scalar.cmpi .ne v644 c0_i32_43
  v645

def k0_off11 (i : grid0.Coords) (k0_t1 : Fin k0_t1_loop.trips) : Fin 1 → Nat :=
  let c2_i32_29 : BitVec 32 := 2#32
  let c0_i32_10 : BitVec 32 := 0#32
  let c1_i32 : BitVec 32 := 1#32
  let arg17 : BitVec 32 := Scf.iv c0_i32_10 c1_i32 k0_t1
  let v627 : BitVec 32 := Scalar.muli c2_i32_29 arg17
  let c1_i32_30 : BitVec 32 := 1#32
  let v628 : BitVec 32 := Scalar.addi v627 c1_i32_30
  let c2_i32_45 : BitVec 32 := 2#32
  let v646 : BitVec 32 := Scalar.addi v628 c2_i32_45
  let c32_i32_46 : BitVec 32 := 32#32
  let v647 : BitVec 32 := Scalar.muli v646 c32_i32_46
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v648 : BitVec 32 := Scalar.addi v647 v1
  let c16384_i32_47 : BitVec 32 := 16384#32
  let v649 : BitVec 32 := Scalar.muli v648 c16384_i32_47
  ![v649.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "per_50" => some ((1 / 50 : ℝ) : EReal)
  | _ => none
-- ==== ReferenceIdeal.lean ====
abbrev S8388608x3 : Shape := ⟨2, ![8388608, 3]⟩
abbrev S10 : Shape := ⟨1, ![10]⟩
abbrev S8388608x1 : Shape := ⟨2, ![8388608, 1]⟩
abbrev S8388608 : Shape := ⟨1, ![8388608]⟩
abbrev S_ : Shape := ⟨0, ![]⟩
abbrev S1 : Shape := ⟨1, ![1]⟩
abbrev S9 : Shape := ⟨1, ![9]⟩

abbrev nBuf : Space → Nat
  | .hbm => 131
  | .vmem => 0
  | .smem => 0
  | _ => 0

abbrev hbmTy0_0 (i : Nat) : BufTy := match i % 128 with
  | 0 => ⟨S8388608x3, .f32⟩
  | 1 => ⟨S10, .f32⟩
  | 2 => ⟨S10, .f32⟩
  | 3 => ⟨S8388608x1, .f32⟩
  | 4 => ⟨S8388608, .f32⟩
  | 5 => ⟨S_, .f32⟩
  | 6 => ⟨S8388608, .f32⟩
  | 7 => ⟨S_, .f32⟩
  | 8 => ⟨S1, .f32⟩
  | 9 => ⟨S9, .f32⟩
  | 10 => ⟨S10, .f32⟩
  | 11 => ⟨S1, .f32⟩
  | 12 => ⟨S_, .f32⟩
  | 13 => ⟨S8388608, .f32⟩
  | 14 => ⟨S8388608, .i1⟩
  | 15 => ⟨S1, .f32⟩
  | 16 => ⟨S_, .f32⟩
  | 17 => ⟨S8388608, .f32⟩
  | 18 => ⟨S8388608, .f32⟩
  | 19 => ⟨S1, .f32⟩
  | 20 => ⟨S_, .f32⟩
  | 21 => ⟨S8388608, .f32⟩
  | 22 => ⟨S8388608, .i1⟩
  | 23 => ⟨S1, .f32⟩
  | 24 => ⟨S_, .f32⟩
  | 25 => ⟨S8388608, .f32⟩
  | 26 => ⟨S8388608, .i1⟩
  | 27 => ⟨S8388608, .i1⟩
  | 28 => ⟨S1, .f32⟩
  | 29 => ⟨S_, .f32⟩
  | 30 => ⟨S8388608, .f32⟩
  | 31 => ⟨S8388608, .f32⟩
  | 32 => ⟨S1, .f32⟩
  | 33 => ⟨S_, .f32⟩
  | 34 => ⟨S8388608, .f32⟩
  | 35 => ⟨S8388608, .i1⟩
  | 36 => ⟨S1, .f32⟩
  | 37 => ⟨S_, .f32⟩
  | 38 => ⟨S8388608, .f32⟩
  | 39 => ⟨S8388608, .i1⟩
  | 40 => ⟨S8388608, .i1⟩
  | 41 => ⟨S1, .f32⟩
  | 42 => ⟨S_, .f32⟩
  | 43 => ⟨S8388608, .f32⟩
  | 44 => ⟨S8388608, .f32⟩
  | 45 => ⟨S1, .f32⟩
  | 46 => ⟨S_, .f32⟩
  | 47 => ⟨S8388608, .f32⟩
  | 48 => ⟨S8388608, .i1⟩
  | 49 => ⟨S1, .f32⟩
  | 50 => ⟨S_, .f32⟩
  | 51 => ⟨S8388608, .f32⟩
  | 52 => ⟨S8388608, .i1⟩
  | 53 => ⟨S8388608, .i1⟩
  | 54 => ⟨S1, .f32⟩
  | 55 => ⟨S_, .f32⟩
  | 56 => ⟨S8388608, .f32⟩
  | 57 => ⟨S8388608, .f32⟩
  | 58 => ⟨S1, .f32⟩
  | 59 => ⟨S_, .f32⟩
  | 60 => ⟨S8388608, .f32⟩
  | 61 => ⟨S8388608, .i1⟩
  | 62 => ⟨S1, .f32⟩
  | 63 => ⟨S_, .f32⟩
  | 64 => ⟨S8388608, .f32⟩
  | 65 => ⟨S8388608, .i1⟩
  | 66 => ⟨S8388608, .i1⟩
  | 67 => ⟨S1, .f32⟩
  | 68 => ⟨S_, .f32⟩
  | 69 => ⟨S8388608, .f32⟩
  | 70 => ⟨S8388608, .f32⟩
  | 71 => ⟨S1, .f32⟩
  | 72 => ⟨S_, .f32⟩
  | 73 => ⟨S8388608, .f32⟩
  | 74 => ⟨S8388608, .i1⟩
  | 75 => ⟨S1, .f32⟩
  | 76 => ⟨S_, .f32⟩
  | 77 => ⟨S8388608, .f32⟩
  | 78 => ⟨S8388608, .i1⟩
  | 79 => ⟨S8388608, .i1⟩
  | 80 => ⟨S1, .f32⟩
  | 81 => ⟨S_, .f32⟩
  | 82 => ⟨S8388608, .f32⟩
  | 83 => ⟨S8388608, .f32⟩
  | 84 => ⟨S1, .f32⟩
  | 85 => ⟨S_, .f32⟩
  | 86 => ⟨S8388608, .f32⟩
  | 87 => ⟨S8388608, .i1⟩
  | 88 => ⟨S1, .f32⟩
  | 89 => ⟨S_, .f32⟩
  | 90 => ⟨S8388608, .f32⟩
  | 91 => ⟨S8388608, .i1⟩
  | 92 => ⟨S8388608, .i1⟩
  | 93 => ⟨S1, .f32⟩
  | 94 => ⟨S_, .f32⟩
  | 95 => ⟨S8388608, .f32⟩
  | 96 => ⟨S8388608, .f32⟩
  | 97 => ⟨S1, .f32⟩
  | 98 => ⟨S_, .f32⟩
  | 99 => ⟨S8388608, .f32⟩
  | 100 => ⟨S8388608, .i1⟩
  | 101 => ⟨S1, .f32⟩
  | 102 => ⟨S_, .f32⟩
  | 103 => ⟨S8388608, .f32⟩
  | 104 => ⟨S8388608, .i1⟩
  | 105 => ⟨S8388608, .i1⟩
  | 106 => ⟨S1, .f32⟩
  | 107 => ⟨S_, .f32⟩
  | 108 => ⟨S8388608, .f32⟩
  | 109 => ⟨S8388608, .f32⟩
  | 110 => ⟨S1, .f32⟩
  | 111 => ⟨S_, .f32⟩
  | 112 => ⟨S8388608, .f32⟩
  | 113 => ⟨S8388608, .i1⟩
  | 114 => ⟨S1, .f32⟩
  | 115 => ⟨S_, .f32⟩
  | 116 => ⟨S8388608, .f32⟩
  | 117 => ⟨S8388608, .i1⟩
  | 118 => ⟨S8388608, .i1⟩
  | 119 => ⟨S1, .f32⟩
  | 120 => ⟨S_, .f32⟩
  | 121 => ⟨S8388608, .f32⟩
  | 122 => ⟨S8388608, .f32⟩
  | 123 => ⟨S1, .f32⟩
  | 124 => ⟨S_, .f32⟩
  | 125 => ⟨S8388608, .f32⟩
  | 126 => ⟨S8388608, .i1⟩
  | 127 => ⟨S1, .f32⟩
  | _ => ⟨S8388608x3, .f32⟩

abbrev hbmTy0_1 (i : Nat) : BufTy := match i % 128 with
  | 0 => ⟨S_, .f32⟩
  | 1 => ⟨S8388608, .f32⟩
  | 2 => ⟨S8388608, .f32⟩
  | _ => ⟨S8388608x3, .f32⟩

abbrev hbmTy (i : Nat) : BufTy := match i / 128 with
  | 0 => hbmTy0_0 i
  | 1 => hbmTy0_1 i
  | _ => ⟨S8388608x3, .f32⟩

abbrev bufTy : (tb : Table) → Fin (tcTables nBuf tb) → BufTy
  | .hbm, ⟨i, _⟩ => hbmTy i
  | _, _ => ⟨S8388608x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_v0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_call1_v0 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_call2_v0 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_call3_v0 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_call4_v0 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_call5_v0 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_call6_v0 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_call7_v0 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_call8_v0 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_call9_v0 : Ref sig .tc := ⟨.hbm, 129, rfl⟩
abbrev main_v115 : Ref sig .tc := ⟨.hbm, 130, rfl⟩

abbrev nD : Nat := 1
abbrev τ : Topo := Topo.v7x

variable {F : FTy → Type} [FloatOps F]
-- ==== Proof.Chunks.lean ====
/-
  The index sets the kernel's tasks work on. The depth column and the result have 8388608 entries, cut into 512
  chunks of 16384; chunk number `32 k + w` is the `k`-th chunk of task `w`. A task's chunks from its `lo`-th up to
  (not including) its `hi`-th make the set `seg w lo hi`.
-/
module

public import Idealize.ShloMosaic.Lib.Tactic

@[expose] public section

namespace Cert.Proof.Chunks

open Idealize.ShloMosaic

abbrev SN : Shape := ⟨1, ![8388608]⟩
abbrev SC : Shape := ⟨1, ![16384]⟩

/-- The entries of task `w`'s chunks from its `lo`-th up to its `hi`-th. -/
def seg (w lo hi : ℕ) : Finset SN.Idx :=
  Finset.univ.filter fun p => (p 0).val / 16384 % 32 = w ∧ lo ≤ (p 0).val / 524288 ∧ (p 0).val / 524288 < hi

/-- When an entry belongs to a run of chunks. -/
theorem mem_seg {w lo hi : ℕ} {p : SN.Idx} :
    p ∈ seg w lo hi ↔ (p 0).val / 16384 % 32 = w ∧ lo ≤ (p 0).val / 524288 ∧ (p 0).val / 524288 < hi := by
  unfold seg; simp only [Finset.mem_filter, Finset.mem_univ, true_and]

/-- An entry's number is below the array's size. -/
theorem lt_size (p : SN.Idx) : (p 0).val < 8388608 := (p 0).isLt

/-- Two runs of chunks that follow each other make one. -/
theorem seg_union {w a b c : ℕ} (h₁ : a ≤ b) (h₂ : b ≤ c) : seg w a b ∪ seg w b c = seg w a c := by
  ext p; simp only [Finset.mem_union, mem_seg]; omega

/-- Two runs of chunks that follow each other share no entry. -/
theorem seg_disjoint {w a b c : ℕ} : Disjoint (seg w a b) (seg w b c) := by
  rw [Finset.disjoint_left]; intro p h h'; rw [mem_seg] at h h'; omega

/-- A run of no chunks has no entries. -/
theorem seg_self (w a : ℕ) : seg w a a = ∅ := by
  ext p; simp only [mem_seg, Finset.notMem_empty, iff_false]; omega

/-- The tasks' sets partition the indices. -/
theorem seg_cover : (Finset.univ : Finset (Fin 32)).biUnion (fun w => seg w.val 0 32) = Finset.univ := by
  ext p
  simp only [Finset.mem_biUnion, Finset.mem_univ, true_and, iff_true]
  refine ⟨⟨(p 0).val / 16384 % 32, Nat.mod_lt _ (by decide)⟩, mem_seg.mpr ⟨rfl, Nat.zero_le _, ?_⟩⟩
  have := lt_size p
  omega

/-- Different tasks have no entry in common. -/
theorem seg_apart : ∀ i ∈ (Finset.univ : Finset (Fin 32)), ∀ j ∈ (Finset.univ : Finset (Fin 32)), i ≠ j →
    Disjoint (seg i.val 0 32) (seg j.val 0 32) := by
  intro i _ j _ hij
  rw [Finset.disjoint_left]; intro p h h'
  rw [mem_seg] at h h'
  exact hij (Fin.ext (h.1.symm.trans h'.1))

/-- A chunk's window is its set. -/
theorem window_set {off : Fin 1 → ℕ} {inb : ∀ a, off a + SC.size a ≤ SN.size a} {w k : ℕ} (hw : w < 32)
    (ho : off 0 = 524288 * k + 16384 * w) : (Rect.unit (s := SN) off SC.size inb).set = seg w k (k + 1) := by
  ext p
  rw [Rect.mem_set_unit, mem_seg]
  constructor
  · intro h
    have h0 : off 0 ≤ (p 0).val ∧ (p 0).val < off 0 + 16384 := h 0
    omega
  · intro h a
    obtain rfl : a = 0 := Subsingleton.elim _ _
    show off 0 ≤ (p 0).val ∧ (p 0).val < off 0 + 16384
    omega

end Cert.Proof.Chunks
-- ==== Proof.IdealInner.lean ====
/-
  The counted loops inside one chunk of the kernel's body: each trip loads sixteen values, turns each into a table
  index, gathers the table at the sixteen indices and stores the result. Both buffers of the double buffering run the
  same loop, so one statement, over any pair of tile memrefs, serves both.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program, the resource algebra -/

abbrev ΛP : Labels := Pipeline.Sig Λ₀ (Fin 0) fun p => (pcfgs (F := F) p).Adm
abbrev 𝒱₀ : Variants := Variants.none
abbrev UH : Type := URounds (GSem nD τ sig) ℕ
/-- The launch's handshakes beside the counters of the transfers in flight. -/
abbrev UU : Type := UH × Counters

local notation "𝕄" => MT nD τ sig (HIx 1) (Elt F) ℕ UU ℕ

variable [FloatOps F] [Named F]

/-! ## One element of the loop -/

/-- The table index the kernel computes from a depth value. -/
def ixw (z : F .f32) : BitVec 32 := k0_pay1 (fun _ : S16.Idx => z) (fun _ => ⟨0, by simp⟩)

/-- A lane's table index is the index word of the lane's depth. -/
theorem pay1_apply (v : Vec F S16 .f32) (x : S16.Idx) : k0_pay1 v x = ixw (v x) := rfl

/-- The table's entry at an index word. -/
def tabAt (tb : S80.Idx → F .f32) (w : BitVec 32) : F .f32 :=
  tb fun a => ⟨w.toNat % S80.size a, Nat.mod_lt _ (by rw [Subsingleton.elim a 0]; decide)⟩

/-- A lane of the gather is the table's entry at the lane's index word. -/
theorem loadIdx_tab (tb : S80.Idx → F .f32) (v : IVec S16 32) (h : ∀ a x, ((![v] : Fin 1 → IVec S16 32) a x).toNat < S80.size a)
    (x : S16.Idx) : loadIdx (F := F) (e := .f32) tb ![v] h x = tabAt tb (v x) := by
  unfold loadIdx tabAt
  congr 1
  funext a
  obtain rfl : a = 0 := Subsingleton.elim _ _
  exact Fin.ext (Nat.mod_eq_of_lt (h 0 x)).symm

/-! ## The loop -/

section Inner

variable (d : Dev nD) (L : grid0.Coords)

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- The loop inside a chunk makes 1024 trips. -/
theorem trips2 : k0_t2_loop.trips = 1024 := by decide

/-- Before trip `t`: the first `16 t` entries of the result buffer are looked up. -/
def innerInv (a6 a8 : Memref sig .scVector .vmem S16384 .f32) (a12 : Memref sig .scVector .vmem S80 .f32)
    (f6 : Buf (Elt F) (a6.view.loc (thr d L))) (f12 : Buf (Elt F) (a12.view.loc (thr d L))) (t : Nat) (_ : BitVec 32) : sProp 𝕄 :=
  iprop((a6.view.loc (thr d L) ↦{fullShare} f6)
    ∗ (a12.view.loc (thr d L) ↦{fullShare} f12)
    ∗ ∃ f8, ⌜∀ j : S16384.Idx, (j 0).val < 16 * t →
        a8.view.read (Elt F) f8 j = tabAt (a12.view.read (Elt F) f12) (ixw (a6.view.read (Elt F) f6 j))⌝
      ∗ a8.view.loc (thr d L) ↦{fullShare} f8)

/-- One trip's store extends the looked-up prefix by sixteen entries. -/
theorem inner_step (a6 a8 : Memref sig .scVector .vmem S16384 .f32) (a12 : Memref sig .scVector .vmem S80 .f32)
    (f6 : a6.view.ty.Contents (Elt F)) (f : a8.view.ty.Contents (Elt F)) (f12 : a12.view.ty.Contents (Elt F))
    (t : Fin k0_t2_loop.trips)
    (hchk : k0_chk1 (k0_pay1 (a6.view.readAt (Elt F) (Rect.unit (s := S16384) (k0_off4 t) S16.size (k0_off4_inb t)).toLoadRect f6)))
    (hf : ∀ j : S16384.Idx, (j 0).val < 16 * t.val →
      a8.view.read (Elt F) f j = tabAt (a12.view.read (Elt F) f12) (ixw (a6.view.read (Elt F) f6 j)))
    (j : S16384.Idx) (hj : (j 0).val < 16 * (t.val + 1)) :
    a8.view.read (Elt F) ((a8.access (Rect.unit (s := S16384) (k0_off5 t) S16.size (k0_off5_inb t))).write (Elt F) f
      (loadIdx (F := F) (e := .f32) ((a12.access (.whole S80)).read (Elt F) f12)
        ![k0_pay1 (a6.view.readAt (Elt F) (Rect.unit (s := S16384) (k0_off4 t) S16.size (k0_off4_inb t)).toLoadRect f6)]
        (k0_idx1_inb _ hchk)) Finset.univ) j
      = tabAt (a12.view.read (Elt F) f12) (ixw (a6.view.read (Elt F) f6 j)) := by
  by_cases h : (j 0).val < 16 * t.val
  · refine (View.read_slice_write_of_not_mem (v := a8.view) (Rect.unit (s := S16384) (k0_off5 t) S16.size (k0_off5_inb t)) f _ _ ?_).trans ?_
    rotate_left
    · exact hf j h
    · intro hm
      obtain ⟨x, -, rfl⟩ := Finset.mem_map.mp hm
      have e : (((Rect.unit (s := S16384) (k0_off5 t) S16.size (k0_off5_inb t)).emb x 0 : Fin _) : Nat) = k0_off5 t 0 + 1 * (x 0).val := rfl
      have e' : k0_off5 t 0 = 16 * t.val := by rw [k0_off5_eq]; rfl
      omega
  · obtain ⟨x, rfl⟩ : ∃ x, (Rect.unit (s := S16384) (k0_off5 t) S16.size (k0_off5_inb t)).emb x = j := by
      refine ⟨fun a => ⟨(j 0).val - 16 * t.val, ?_⟩, ?_⟩
      · obtain rfl : a = 0 := Subsingleton.elim _ _
        show (j 0).val - 16 * t.val < 16; omega
      · funext a
        obtain rfl : a = 0 := Subsingleton.elim _ _
        apply Fin.ext
        show k0_off5 t 0 + 1 * ((j 0).val - 16 * t.val) = (j 0).val
        rw [k0_off5_eq]; simp; omega
    refine (View.read_slice_write_emb (v := a8.view) (Rect.unit (s := S16384) (k0_off5 t) S16.size (k0_off5_inb t)) f _ (Finset.mem_univ _)).trans ?_
    refine (loadIdx_tab _ _ _ _).trans ?_
    rw [pay1_apply, View.readAt_apply]
    have etab : (a12.access (.whole S80)).read (Elt F) f12 = a12.view.read (Elt F) f12 := by
      funext y
      show a12.view.read (Elt F) f12 ((Rect.whole S80).emb y) = _
      congr 1
      funext a; apply Fin.ext
      show 0 + 1 * (y a).val = (y a).val
      omega
    have eidx : (Rect.unit (s := S16384) (k0_off4 t) S16.size (k0_off4_inb t)).toLoadRect.idx x
        = (Rect.unit (s := S16384) (k0_off5 t) S16.size (k0_off5_inb t)).emb x := by
      funext a
      obtain rfl : a = 0 := Subsingleton.elim _ _
      apply Fin.ext
      show k0_off4 t 0 + 1 * (x 0).val = k0_off5 t 0 + 1 * (x 0).val
      rw [show k0_off4 t = k0_off5 t from (k0_off4_eq t).trans (k0_off5_eq t).symm]
    exact (congrArg (tabAt · _) etab).trans (congrArg (fun i => tabAt _ (ixw (a6.view.read (Elt F) f6 i))) eidx)

/-- The loop over one buffer's chunk: the result buffer ends with the table's entry for every depth of the chunk. -/
theorem inner_loop (arg2 : Memref sig .scVector .hbm S8388608 .f32) (harg2 : arg2.IsWhole) (arg3 : Memref sig .scVector .hbm S10 .f32) (harg3 : arg3.IsWhole) (arg4 : Memref sig .scVector .hbm S10 .f32) (harg4 : arg4.IsWhole) (arg5 : Memref sig .scVector .hbm S8388608 .f32) (harg5 : arg5.IsWhole) (arg6 : Memref sig .scVector .vmem S16384 .f32) (harg6 : arg6.IsWhole) (arg7 : Memref sig .scVector .vmem S16384 .f32) (harg7 : arg7.IsWhole) (arg8 : Memref sig .scVector .vmem S16384 .f32) (harg8 : arg8.IsWhole) (arg9 : Memref sig .scVector .vmem S16384 .f32) (harg9 : arg9.IsWhole) (arg10 : Memref sig .scVector .vmem S16 .f32) (harg10 : arg10.IsWhole) (arg11 : Memref sig .scVector .vmem S16 .f32) (harg11 : arg11.IsWhole) (arg12 : Memref sig .scVector .vmem S80 .f32) (harg12 : arg12.IsWhole) (arg13 arg14 arg15 arg16 v608_r0 v608_r1 : DmaSems sig S_) (v1 c0 c1 : BitVec 32) (t1 : Fin k0_t1_loop.trips)
    (f6 : Buf (Elt F) (arg6.view.loc (thr d L))) (f8 : Buf (Elt F) (arg8.view.loc (thr d L))) (f12 : Buf (Elt F) (arg12.view.loc (thr d L)))
    (hix : ∀ j : S16384.Idx, (ixw (arg6.view.read (Elt F) f6 j)).toNat < 80) :
    iprop((arg6.view.loc (thr d L) ↦{fullShare} f6) ∗ (arg8.view.loc (thr d L) ↦{fullShare} f8) ∗ (arg12.view.loc (thr d L) ↦{fullShare} f12))
      ⊢ wp (M := 𝕄) frame (wpE (defs₀ (F := F)) 𝒱₀ (thr d L) none) Set.univ
          (Scf.Loop.for k0_t2_loop k0_t2_ok 0#32 (k0_t2_body L arg2 harg2 arg3 harg3 arg4 harg4 arg5 harg5 arg6 harg6 arg7 harg7 arg8 harg8 arg9 harg9 arg10 harg10 arg11 harg11 arg12 harg12 arg13 arg14 arg15 arg16 v608_r0 v608_r1 v1 c0 c1 t1))
          fun _ => iprop((arg6.view.loc (thr d L) ↦{fullShare} f6)
            ∗ (arg12.view.loc (thr d L) ↦{fullShare} f12)
            ∗ ∃ f8', ⌜∀ j, arg8.view.read (Elt F) f8' j = tabAt (arg12.view.read (Elt F) f12) (ixw (arg6.view.read (Elt F) f6 j))⌝
              ∗ arg8.view.loc (thr d L) ↦{fullShare} f8') := by
  iintro ⟨H6, H8, H12⟩
  sl_for (innerInv d L arg6 arg8 arg12 f6 f12) $$ [H6 H8 H12]
  case region =>
    intro t acc
    unfold innerInv
    iintro ⟨H6, H12, %f, %hf, H8⟩
    unfold inner_loop.sl.prog.body_1 k0_t2_body
    simp only [Prog.lift, Prog.bind_op, Prog.bind_ret, Prog.pure_eq_ret]
    iapply (wp_load 𝒱₀ (thr d L) none Set.univ (m := arg6) (S := Finset.univ) (Finset.subset_univ _)) $$ H6; iintro H6
    have hchk : k0_chk1 (k0_pay1 (arg6.view.readAt (Elt F) (Rect.unit (s := S16384) (k0_off4 t) S16.size (k0_off4_inb t)).toLoadRect f6)) := by
      intro a x
      obtain rfl : a = 0 := Subsingleton.elim _ _
      show (ixw (arg6.view.readAt (Elt F) (Rect.unit (s := S16384) (k0_off4 t) S16.size (k0_off4_inb t)).toLoadRect f6 x)).toNat < 80
      rw [View.readAt_apply]; exact hix _
    rw [wp_assume_of _ _ _ _ hchk]
    iapply (SparseCore.wp_vectorLoadIdx 𝒱₀ (thr d L) none Set.univ (base := arg12) (S := Finset.univ) (q := fullShare) (Finset.subset_univ _)) $$ H12; iintro H12
    iapply (wp_load 𝒱₀ (thr d L) none Set.univ (m := arg8) (S := Finset.univ) (Finset.subset_univ _)) $$ H8; iintro H8
    iapply (wp_store 𝒱₀ (thr d L) none Set.univ (m := arg8) (r := Rect.unit (s := S16384) (k0_off5 t) S16.size (k0_off5_inb t)) (Mk := Finset.univ) (S := Finset.univ) (Finset.subset_univ _)) $$ H8; iintro H8
    rw [wp_ret]; imodintro
    isplitl [H6]; · iexact H6
    isplitl [H12]; · iexact H12
    iexists _; isplitr
    · ipureintro
      exact inner_step arg6 arg8 arg12 f6 f f12 t hchk hf
    · iexact H8
  · unfold innerInv
    isplitl [H6 H8 H12]
    · isplitl [H6]; · iexact H6
      isplitl [H12]; · iexact H12
      iexists f8; isplitr
      · ipureintro; intro j hj; exact absurd hj (by omega)
      · iexact H8
    · iintro %acc ⟨H6, H12, %f, %hf, H8⟩
      isplitl [H6]; · iexact H6
      isplitl [H12]; · iexact H12
      iexists f; isplitr
      · ipureintro; intro j
        refine hf j (lt_of_lt_of_le (j 0).isLt ?_)
        show 16384 ≤ 16 * k0_t2_loop.trips
        rw [trips2]
      · iexact H8

/-- The second buffer's loop is the first's with the two buffers of each pair exchanged. -/
theorem loop3_eq (arg2 : Memref sig .scVector .hbm S8388608 .f32) (harg2 : arg2.IsWhole) (arg3 : Memref sig .scVector .hbm S10 .f32) (harg3 : arg3.IsWhole) (arg4 : Memref sig .scVector .hbm S10 .f32) (harg4 : arg4.IsWhole) (arg5 : Memref sig .scVector .hbm S8388608 .f32) (harg5 : arg5.IsWhole) (arg6 : Memref sig .scVector .vmem S16384 .f32) (harg6 : arg6.IsWhole) (arg7 : Memref sig .scVector .vmem S16384 .f32) (harg7 : arg7.IsWhole) (arg8 : Memref sig .scVector .vmem S16384 .f32) (harg8 : arg8.IsWhole) (arg9 : Memref sig .scVector .vmem S16384 .f32) (harg9 : arg9.IsWhole) (arg10 : Memref sig .scVector .vmem S16 .f32) (harg10 : arg10.IsWhole) (arg11 : Memref sig .scVector .vmem S16 .f32) (harg11 : arg11.IsWhole) (arg12 : Memref sig .scVector .vmem S80 .f32) (harg12 : arg12.IsWhole) (arg13 arg14 arg15 arg16 v608_r0 v608_r1 : DmaSems sig S_) (v1 c0 c1 : BitVec 32) (t1 : Fin k0_t1_loop.trips)
    (v2 v3 v477 v552 : Vec F S16 .f32) (v554 v556 : F .f32) :
    Scf.Loop.for k0_t3_loop k0_t3_ok 0#32 (k0_t3_body (F := F) L arg2 harg2 arg3 harg3 arg4 harg4 arg5 harg5 arg6 harg6 arg7 harg7 arg8 harg8 arg9 harg9 arg10 harg10 arg11 harg11 arg12 harg12 arg13 arg14 arg15 arg16 v608_r0 v608_r1 v1 v2 v3 v477 v552 v554 v556)
      = Scf.Loop.for k0_t2_loop k0_t2_ok 0#32 (k0_t2_body (F := F) L arg2 harg2 arg3 harg3 arg4 harg4 arg5 harg5 arg7 harg7 arg6 harg6 arg9 harg9 arg8 harg8 arg10 harg10 arg11 harg11 arg12 harg12 arg13 arg14 arg15 arg16 v608_r0 v608_r1 v1 c0 c1 t1) := rfl

end Inner

end Cert.Proof.KI
-- ==== Proof.IdealOps.lean ====
/-
  The kernel's copies, one rule each way: a chunk of the depth column into a tile buffer, a tile buffer into a chunk of
  the result, each as an enqueue and a wait. What a copy in flight will hand back is stated by the chunk's number, for
  any of the tile's buffers.
-/
module

public import proofs.«01_k».proof.Proof.IdealInner
public import proofs.«01_k».proof.Proof.Chunks

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Chunks

variable {F : FTy → Type}

local notation "𝕄" => MT nD τ sig (HIx 1) (Elt F) ℕ UU ℕ

/-! ## The buffers -/

/-- The arguments, the depth column and the result, as locations of device `d`. -/
abbrev aLoc (d : Dev nD) : Loc nD τ sig := (SparseCore.T d).loc main_arg0
abbrev velLoc (d : Dev nD) : Loc nD τ sig := (SparseCore.T d).loc main_arg1
abbrev depLoc (d : Dev nD) : Loc nD τ sig := (SparseCore.T d).loc main_arg2
abbrev zLoc (d : Dev nD) : Loc nD τ sig := (SparseCore.T d).loc main_v1
abbrev oLoc (d : Dev nD) : Loc nD τ sig := (SparseCore.T d).loc main_v2

abbrev zM : Memref sig .scVector .hbm S8388608 .f32 := Memref.whole main_v1_scv
abbrev velM : Memref sig .scVector .hbm S10 .f32 := Memref.whole main_arg1_scv
abbrev depM : Memref sig .scVector .hbm S10 .f32 := Memref.whole main_arg2_scv
abbrev oM : Memref sig .scVector .hbm S8388608 .f32 := Memref.whole main_v2_scv
abbrev zSl (off : Fin 1 → ℕ) (inb : ∀ a, off a + S16384.size a ≤ S8388608.size a) : Memref sig .scVector .hbm S16384 .f32 :=
  zM.slice (Rect.unit (s := S8388608) off S16384.size inb) (fun _ => rfl)
abbrev oSl (off : Fin 1 → ℕ) (inb : ∀ a, off a + S16384.size a ≤ S8388608.size a) : Memref sig .scVector .hbm S16384 .f32 :=
  oM.slice (Rect.unit (s := S8388608) off S16384.size inb) (fun _ => rfl)
abbrev zb0 : Memref sig .scVector .vmem S16384 .f32 := Memref.whole cc0_scratch0
abbrev zb1 : Memref sig .scVector .vmem S16384 .f32 := Memref.whole cc0_scratch1
abbrev ob0 : Memref sig .scVector .vmem S16384 .f32 := Memref.whole cc0_scratch2
abbrev ob1 : Memref sig .scVector .vmem S16384 .f32 := Memref.whole cc0_scratch3
abbrev velS : Memref sig .scVector .vmem S16 .f32 := Memref.whole cc0_scratch4
abbrev depS : Memref sig .scVector .vmem S16 .f32 := Memref.whole cc0_scratch5
abbrev tabS : Memref sig .scVector .vmem S80 .f32 := Memref.whole cc0_scratch6

variable [FloatOps F] [Named F]

section Ops

variable (d : Dev nD) (L : grid0.Coords)

/-- The task's number among the 32. -/
abbrev wid (L : grid0.Coords) : ℕ := 2 * (L 1).val + (L 0).val

/-- A task's number is below 32. -/
theorem wid_lt : wid L < 32 := by
  have h0 : (L 0).val < 2 := (L 0).isLt
  have h1 : (L 1).val < 16 := (L 1).isLt
  unfold wid; omega

/-- The credit of a chunk's copy into the tile buffer `b`, and of one into the result. -/
abbrev NI (b : Memref sig .scVector .vmem S16384 .f32) : ℕ := b.view.dmaCredit
abbrev NO : ℕ := sig.dmaCredit .scVector (Kind.scVector.table .hbm) (main_v2_scv : Ref sig .scVector).idx S16384 .f32

/-- What chunk `k`'s copy into the buffer `b` hands back: `b` at the chunk's values, and the chunk. -/
def InD (zv : Buf (Elt F) (zLoc d)) (b : Memref sig .scVector .vmem S16384 .f32) (k : ℕ) : sProp 𝕄 :=
  iprop((∃ f, ⌜∀ (j : S16384.Idx) (p : S8388608.Idx), (p 0).val = 524288 * k + 16384 * wid L + (j 0).val →
        b.view.read (Elt F) f j = zv p⌝ ∗ b.view.loc (thr d L) ↦{fullShare} f)
    ∗ zLoc d ↦[seg (wid L) k (k + 1)]{fullShare} zv)

/-- What chunk `k`'s copy out of the buffer `b` hands back: the result's chunk at values that are `Good`, and `b`. -/
def OutD (Good : S8388608.Idx → F .f32 → Prop) (b : Memref sig .scVector .vmem S16384 .f32) (k : ℕ) : sProp 𝕄 :=
  iprop((∃ g : Buf (Elt F) (oLoc d), ⌜∀ p ∈ seg (wid L) k (k + 1), Good p (g p)⌝ ∗ oLoc d ↦[seg (wid L) k (k + 1)]{fullShare} g)
    ∗ ∃ f, b.view.loc (thr d L) ↦{fullShare} f)

/-- Starting the copy of a chunk of depths into a free buffer puts it in flight. -/
theorem start_in {α : Type} {Q : α → sProp 𝕄} (zv : Buf (Elt F) (zLoc d)) (b : Memref sig .scVector .vmem S16384 .f32) (hb : b.view.set = Finset.univ)
    (s : DmaSem sig) (off : Fin 1 → ℕ) (inb : ∀ a, off a + S16384.size a ≤ S8388608.size a) (k : ℕ)
    (ho : off 0 = 524288 * k + 16384 * wid L) (f : Buf (Elt F) (b.view.loc (thr d L)))
    {hs : (zSl off inb).view.WordExact} {hd : b.view.WordExact}
    {hsem : DmaTarget.Typed (nD := nD) .hbm (.dma s) (DmaTarget.here (p := (thr d L).2) b)}
    {kk : PUnit → Prog (TpuEff nD τ sig (Elt F) Λ₀ (thr d L).2) α} :
    iprop((zLoc d ↦[seg (wid L) k (k + 1)]{fullShare} zv) ∗ (b.view.loc (thr d L) ↦{fullShare} f) ∗ semVal (thr d L, .dma s) 0)
      ⊢ iprop((Transfers.Flight (countersEmb (U := UU)) (thr d L) (.dma s) none (NI b) (InD d L zv b k)
            -∗ wp frame (wpE (defs₀ (F := F)) 𝒱₀ (thr d L) none) Set.univ (kk ⟨⟩) Q)
          -∗ wp frame (wpE (defs₀ (F := F)) 𝒱₀ (thr d L) none) Set.univ
              (.op (.enqueueDma (zSl off inb) (.here b) (.dma s) hs hd hsem) kk) Q) := by
  have hset : (zSl off inb).view.set = seg (wid L) k (k + 1) :=
    (View.set_slice_whole _ _).trans (window_set (wid_lt L) ho)
  iintro ⟨Hz, Hb, Hsem⟩ Hk
  iapply (Transfers.wp_dmaLocal (countersEmb (U := UU)) 𝒱₀ (thr d L) none (src := zSl off inb)
    (dst := b) (sm := .dma s) (q := fullShare) (fs := zv) (Sd := Finset.univ) (fd := f)
    none (NI b) (View.amount_dma _ _) (View.dmaCredit_pos _ (by decide)) (Finset.subset_univ _)) $$ [Hz Hb Hsem]
  · rw [hset]
    isplitl [Hz]; · iexact Hz
    isplitl [Hb]; · iexact Hb
    iexact Hsem
  iintro HF
  iapply Hk
  iapply (Transfers.Flight_mono (countersEmb (U := UU)) (thr d L) ?_) $$ HF
  rw [hset]
  unfold InD
  iintro ⟨Hb, Hz⟩
  isplitl [Hb]
  · iexists _; isplitr
    · ipureintro
      intro j p hp
      rw [View.read_write_univ]
      show (zSl off inb).view.read (Elt F) zv j = zv p
      refine (View.read_apply _ _).trans ((cast_eq _ _).trans (congrArg zv ?_))
      funext (a : Fin 1)
      obtain rfl : a = 0 := Subsingleton.elim _ _
      apply Fin.ext
      show off 0 + 1 * (j 0).val = (p 0).val
      omega
    · iexact Hb
  · iexact Hz

omit [FloatOps F] [Named F] in
/-- What a copy out writes at an entry of its chunk. -/
theorem oSl_write (off : Fin 1 → ℕ) (inb : ∀ a, off a + S16384.size a ≤ S8388608.size a) (g : Buf (Elt F) (oLoc d)) (w : S16384.Idx → F .f32)
    (j : S16384.Idx) : (oSl off inb).view.write (Elt F) g w Finset.univ ((oSl off inb).view.emb j) = w j :=
  (View.write_emb_of_mem (v := (oSl off inb).view) (Val := Elt F) g w (Finset.mem_univ j)).trans (cast_eq _ _)

/-- Starting the copy of a full buffer to its chunk of the result puts it in flight; the values are good where they land. -/
theorem start_out {α : Type} {Q : α → sProp 𝕄} (Good : S8388608.Idx → F .f32 → Prop) (b : Memref sig .scVector .vmem S16384 .f32) (hb : b.view.set = Finset.univ)
    (s : DmaSem sig) (off : Fin 1 → ℕ) (inb : ∀ a, off a + S16384.size a ≤ S8388608.size a) (k : ℕ)
    (ho : off 0 = 524288 * k + 16384 * wid L) (f : Buf (Elt F) (b.view.loc (thr d L)))
    (hG : ∀ (j : S16384.Idx) (p : S8388608.Idx), (p 0).val = 524288 * k + 16384 * wid L + (j 0).val → Good p (b.view.read (Elt F) f j))
    (g : Buf (Elt F) (oLoc d))
    {hs : b.view.WordExact} {hd : (oSl off inb).view.WordExact}
    {hsem : DmaTarget.Typed (nD := nD) .vmem (.dma s) (DmaTarget.here (p := (thr d L).2) (oSl off inb))}
    {kk : PUnit → Prog (TpuEff nD τ sig (Elt F) Λ₀ (thr d L).2) α} :
    iprop((b.view.loc (thr d L) ↦{fullShare} f) ∗ (oLoc d ↦[seg (wid L) k (k + 1)]{fullShare} g) ∗ semVal (thr d L, .dma s) 0)
      ⊢ iprop((Transfers.Flight (countersEmb (U := UU)) (thr d L) (.dma s) none NO (OutD d L Good b k)
            -∗ wp frame (wpE (defs₀ (F := F)) 𝒱₀ (thr d L) none) Set.univ (kk ⟨⟩) Q)
          -∗ wp frame (wpE (defs₀ (F := F)) 𝒱₀ (thr d L) none) Set.univ
              (.op (.enqueueDma b (.here (oSl off inb)) (.dma s) hs hd hsem) kk) Q) := by
  have hset : (oSl off inb).view.set = seg (wid L) k (k + 1) :=
    (View.set_slice_whole _ _).trans (window_set (wid_lt L) ho)
  iintro ⟨Hb, Ho, Hsem⟩ Hk
  iapply (Transfers.wp_dmaLocal (countersEmb (U := UU)) 𝒱₀ (thr d L) none (src := b)
    (dst := oSl off inb) (sm := .dma s) (q := fullShare) (fs := f)
    (Sd := seg (wid L) k (k + 1)) (fd := g)
    none NO (View.amount_dma _ _) (sig.dmaCredit_pos _ _ _ _ _ (by decide)) (by rw [hset])) $$ [Hb Ho Hsem]
  · rw [hb]
    isplitl [Hb]; · iexact Hb
    isplitl [Ho]; · iexact Ho
    iexact Hsem
  iintro HF
  iapply Hk
  iapply (Transfers.Flight_mono (countersEmb (U := UU)) (thr d L) ?_) $$ HF
  rw [hb]
  unfold OutD
  iintro ⟨Ho, Hb⟩
  isplitl [Ho]
  · iexists _; isplitr
    · ipureintro
      intro p hp
      have hp' : p ∈ (oSl off inb).view.set := by rw [hset]; exact hp
      obtain ⟨j, -, rfl⟩ := Finset.mem_map.mp hp'
      have hj : (((oSl off inb).view.emb j : S8388608.Idx) 0).val = 524288 * k + 16384 * wid L + (j 0).val := by
        show off 0 + 1 * (j 0).val = _
        omega
      have := hG j _ hj
      exact Eq.subst (motive := fun v => Good _ v) (oSl_write d off inb g (b.view.read (Elt F) f) j).symm this
    · iexact Ho
  · iexists _; iexact Hb

end Ops

end Cert.Proof.KI
-- ==== Proof.IdealLoop.lean ====
/-
  The loop over the chunks: eight trips, two chunks a trip, one in each of the two buffers. Copies in and copies out
  are in flight across trips; the invariant says which chunk each is of.
-/
module

public import proofs.«01_k».proof.Proof.IdealOps

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Chunks

variable {F : FTy → Type}

local notation "𝕄" => MT nD τ sig (HIx 1) (Elt F) ℕ UU ℕ

variable [FloatOps F] [Named F]

section Loop

variable (d : Dev nD) (L : grid0.Coords) (zv : Buf (Elt F) (zLoc d)) (Good : S8388608.Idx → F .f32 → Prop)
variable (f12 : Buf (Elt F) (tabS.view.loc (thr d L)))

/-- The outer loop makes 8 trips. -/
theorem trips1 : k0_t1_loop.trips = 8 := by decide

/-- Before trip `t` the buffer `b` awaits chunk `2 t + r`; after the last it is free. -/
def InSt (b : Memref sig .scVector .vmem S16384 .f32) (s : DmaSem sig) (r t : ℕ) : sProp 𝕄 :=
  if t < 8 then Transfers.Flight (countersEmb (U := UU)) (thr d L) (.dma s) none (NI b) (InD d L zv b (2 * t + r))
  else iprop((∃ f, b.view.loc (thr d L) ↦{fullShare} f) ∗ semVal (thr d L, .dma s) 0)

/-- Before trip `t` the buffer `b` is going out as chunk `2 (t - 1) + r`; before the first it is free. -/
def OutSt (b : Memref sig .scVector .vmem S16384 .f32) (s : DmaSem sig) (r t : ℕ) : sProp 𝕄 :=
  if t = 0 then iprop((∃ f, b.view.loc (thr d L) ↦{fullShare} f) ∗ semVal (thr d L, .dma s) 0)
  else Transfers.Flight (countersEmb (U := UU)) (thr d L) (.dma s) none NO (OutD d L Good b (2 * (t - 1) + r))

/-- A run of the result's chunks, at values that are `Good`. -/
def Done (lo hi : ℕ) : sProp 𝕄 :=
  iprop(∃ g : Buf (Elt F) (oLoc d), ⌜∀ p ∈ seg (wid L) lo hi, Good p (g p)⌝ ∗ oLoc d ↦[seg (wid L) lo hi]{fullShare} g)

/-- A run of the result's chunks, at any values. -/
def Free (lo hi : ℕ) : sProp 𝕄 := iprop(∃ g : Buf (Elt F) (oLoc d), oLoc d ↦[seg (wid L) lo hi]{fullShare} g)

/-- A run of the depth column's chunks. -/
def ZRun (lo hi : ℕ) : sProp 𝕄 := zLoc d ↦[seg (wid L) lo hi]{fullShare} zv

/-- What the task still owes, whatever waits it has been through. -/
def OweSt (O : CellTallies nD τ sig (HIx 1)) (W : Waits sig (HIx 1)) : sProp 𝕄 :=
  iprop(∃ W', ⌜∀ p ∈ W', p ∈ W ∨ p.2 = none⌝ ∗ owes (thr d L) O W')

/-- The outer loop's invariant: both buffers each way, the chunks of depths already read and those not yet in flight, those done, those not yet written, and the table. -/
def outerInv (O : CellTallies nD τ sig (HIx 1)) (W : Waits sig (HIx 1)) (t : ℕ) (_ : BitVec 32) : sProp 𝕄 :=
  iprop(Transfers.MayWaits (thr d L) (none : HIx 1) O
    ∗ InSt d L zv zb0 cc0_scratch7.sem 0 t ∗ InSt d L zv zb1 cc0_scratch8.sem 1 t
    ∗ OutSt d L Good ob0 cc0_scratch9.sem 0 t ∗ OutSt d L Good ob1 cc0_scratch10.sem 1 t
    ∗ ZRun d L zv 0 (2 * t) ∗ ZRun d L zv (2 * t + 2) 32
    ∗ Done d L Good 0 (2 * t - 2) ∗ Free d L (2 * t) 32
    ∗ (tabS.view.loc (thr d L) ↦{fullShare} f12)
    ∗ OweSt d L O W)

/-- A run of depth chunks falls into two. -/
theorem zrun_split {a b c : ℕ} (h₁ : a ≤ b) (h₂ : b ≤ c) :
    (ZRun d L zv a c : sProp 𝕄) ⊣⊢ iprop(ZRun d L zv a b ∗ ZRun d L zv b c) := by
  unfold ZRun
  rw [← seg_union (w := wid L) h₁ h₂]
  exact pointsTo_union seg_disjoint

/-- A run of unwritten chunks falls into two. -/
theorem free_split {a b c : ℕ} (h₁ : a ≤ b) (h₂ : b ≤ c) :
    (Free d L a c : sProp 𝕄) ⊢ iprop(Free d L a b ∗ Free d L b c) := by
  unfold Free
  rw [← seg_union (w := wid L) h₁ h₂]
  iintro ⟨%g, H⟩
  ihave H' := (pointsTo_union (seg_disjoint (w := wid L) (a := a) (b := b) (c := c))).1 $$ H
  icases H' with ⟨H1, H2⟩
  isplitl [H1] <;> (iexists g; iassumption)

/-- Two runs of finished chunks join. -/
theorem done_join {a b c : ℕ} (h₁ : a ≤ b) (h₂ : b ≤ c) :
    iprop(Done d L Good a b ∗ Done d L Good b c) ⊢ (Done d L Good a c : sProp 𝕄) := by
  unfold Done
  iintro ⟨⟨%g, %hg, H⟩, ⟨%g', %hg', H'⟩⟩
  ihave HJ := (pointsTo_join (ℓ := oLoc d) (seg_disjoint (w := wid L) (a := a) (b := b) (c := c))) $$ [H H']
  · isplitl [H] <;> iassumption
  rw [seg_union h₁ h₂]
  iexists _; isplitr
  rotate_left
  · iexact HJ
  · ipureintro
    intro p hp
    by_cases h : p ∈ seg (wid L) b c
    · rw [Finset.piecewise_eq_of_mem _ _ _ h]; exact hg' p h
    · rw [Finset.piecewise_eq_of_notMem _ _ _ h]
      refine hg p ?_
      rw [← seg_union h₁ h₂] at hp
      exact (Finset.mem_union.mp hp).resolve_right h

/-- The first buffer's wait for an earlier copy out is made on every trip but the first. -/
theorem cond1_iff (t : Fin k0_t1_loop.trips) : k0_cond1 t = 1#1 ↔ 0 < t.val := by revert t; decide
/-- So is the second buffer's. -/
theorem cond3_iff (t : Fin k0_t1_loop.trips) : k0_cond3 t = 1#1 ↔ 0 < t.val := by revert t; decide
/-- The first buffer's next copy in is started on every trip but the last. -/
theorem cond2_iff (t : Fin k0_t1_loop.trips) : k0_cond2 t = 1#1 ↔ t.val < 7 := by revert t; decide
/-- So is the second buffer's. -/
theorem cond4_iff (t : Fin k0_t1_loop.trips) : k0_cond4 t = 1#1 ↔ t.val < 7 := by revert t; decide

/-- A program's result may be weakened by what is at hand. -/
theorem wp_then {α : Type} {p : Prog (TpuEff nD τ sig (Elt F) Λ₀ (thr d L).2) α} {Q Q' : α → sProp 𝕄} :
    iprop(wp frame (wpE (defs₀ (F := F)) 𝒱₀ (thr d L) none) Set.univ p Q ∗ (∀ a, Q a -∗ Q' a))
      ⊢ wp frame (wpE (defs₀ (F := F)) 𝒱₀ (thr d L) none) Set.univ p Q' :=
  wp_wand_r frame (wpE (defs₀ (F := F)) 𝒱₀ (thr d L) none) Set.univ

/-- A branch after which the program goes on the same way: what the branch taken gives, the other already has. -/
theorem wp_dite_join {α : Type} {c : Prop} [Decidable c] {P P' : sProp 𝕄} {Q : α → sProp 𝕄}
    {A : c → Prog (TpuEff nD τ sig (Elt F) Λ₀ (thr d L).2) α} {B : ¬ c → Prog (TpuEff nD τ sig (Elt F) Λ₀ (thr d L).2) α}
    {k : Prog (TpuEff nD τ sig (Elt F) Λ₀ (thr d L).2) α}
    (hA : ∀ h, P ⊢ iprop((P' -∗ wp frame (wpE (defs₀ (F := F)) 𝒱₀ (thr d L) none) Set.univ k Q) -∗ wp frame (wpE (defs₀ (F := F)) 𝒱₀ (thr d L) none) Set.univ (A h) Q))
    (hB : ∀ h, B h = k) (hP : ¬ c → P ⊢ P') :
    P ⊢ iprop((P' -∗ wp frame (wpE (defs₀ (F := F)) 𝒱₀ (thr d L) none) Set.univ k Q) -∗ wp frame (wpE (defs₀ (F := F)) 𝒱₀ (thr d L) none) Set.univ (dite c A B) Q) := by
  by_cases h : c
  · rw [dif_pos h]; exact hA h
  · rw [dif_neg h, hB h]
    iintro HP Hk
    iapply Hk
    iapply (hP h); iexact HP

/-- Waiting for a chunk of depths gives the buffer holding it. -/
theorem wait_in {α : Type} {Q : α → sProp 𝕄} (O : CellTallies nD τ sig (HIx 1)) (W : Waits sig (HIx 1))
    (b : Memref sig .scVector .vmem S16384 .f32) (s : DmaSem sig) (r t : ℕ) (ht : t < 8)
    {src : Memref sig .scVector .hbm S16384 .f32} {hs : src.view.WordExact} {hd : b.view.WordExact}
    {kk : PUnit → Prog (TpuEff nD τ sig (Elt F) Λ₀ (thr d L).2) α} :
    iprop(Transfers.MayWaits (thr d L) (none : HIx 1) O ∗ InSt d L zv b s r t ∗ OweSt d L O W)
      ⊢ iprop((iprop(InD d L zv b (2 * t + r) ∗ semVal (thr d L, .dma s) 0 ∗ OweSt d L O W)
            -∗ wp frame (wpE (defs₀ (F := F)) 𝒱₀ (thr d L) none) Set.univ (kk ⟨⟩) Q)
          -∗ wp frame (wpE (defs₀ (F := F)) 𝒱₀ (thr d L) none) Set.univ (.op (.waitDma2 s src b hs hd) kk) Q) := by
  unfold InSt OweSt
  rw [if_pos ht]
  iintro ⟨Hmw, HF, %W', %hW', HO⟩ Hk
  iapply (Transfers.wp_waitLocalO (countersEmb (U := UU)) 𝒱₀ (thr d L) none none rfl) $$ [Hmw HF HO]
  · isplitl [HF]; · iexact HF
    isplitl [HO]; · iexact HO
    iapply (Transfers.MayWaits.elim (.dma s)); iexact Hmw
  iintro ⟨HD, Hs, HO⟩
  iapply Hk
  isplitl [HD]; · iexact HD
  isplitl [Hs]; · iexact Hs
  iexists _; isplitr
  rotate_left
  · iexact HO
  · ipureintro; intro p hp
    rcases Finset.mem_insert.mp hp with rfl | hp
    · exact .inr rfl
    · exact hW' p hp

/-- What the wait for an outgoing buffer leaves: the buffer and the semaphore free, the chunk that went out done. -/
def OutFree (O : CellTallies nD τ sig (HIx 1)) (W : Waits sig (HIx 1)) (b : Memref sig .scVector .vmem S16384 .f32) (s : DmaSem sig) (r t : ℕ) : sProp 𝕄 :=
  iprop((∃ f, b.view.loc (thr d L) ↦{fullShare} f) ∗ semVal (thr d L, .dma s) 0 ∗ Done d L Good (2 * t - 2 + r) (2 * t - 1 + r) ∗ OweSt d L O W)

include zv in
/-- No chunk is done to begin with. -/
theorem done_empty (a : ℕ) : (iprop(emp) : sProp 𝕄) ⊢ Done d L Good a a := by
  unfold Done
  rw [seg_self]
  iintro -
  iexists (fun p => zv p); isplitr
  · ipureintro; intro p hp; exact absurd hp (Finset.notMem_empty _)
  · rw [pointsTo_empty]; iempintro

/-- Waiting for an earlier copy out gives back its buffer and the chunk, now done. -/
theorem wait_out {α : Type} {Q : α → sProp 𝕄} (O : CellTallies nD τ sig (HIx 1)) (W : Waits sig (HIx 1))
    (b : Memref sig .scVector .vmem S16384 .f32) (s : DmaSem sig) (r t : ℕ) (ht : 0 < t)
    (off : Fin 1 → ℕ) (inb : ∀ a, off a + S16384.size a ≤ S8388608.size a) {hs : b.view.WordExact} {hd : (oSl off inb).view.WordExact}
    {kk : PUnit → Prog (TpuEff nD τ sig (Elt F) Λ₀ (thr d L).2) α} :
    iprop(Transfers.MayWaits (thr d L) (none : HIx 1) O ∗ OutSt d L Good b s r t ∗ OweSt d L O W)
      ⊢ iprop((OutFree d L Good O W b s r t
            -∗ wp frame (wpE (defs₀ (F := F)) 𝒱₀ (thr d L) none) Set.univ (kk ⟨⟩) Q)
          -∗ wp frame (wpE (defs₀ (F := F)) 𝒱₀ (thr d L) none) Set.univ (.op (.waitDma2 s b (oSl off inb) hs hd) kk) Q) := by
  unfold OutSt OweSt OutFree
  rw [if_neg (by omega)]
  iintro ⟨Hmw, HF, %W', %hW', HO⟩ Hk
  iapply (Transfers.wp_waitLocalO (countersEmb (U := UU)) 𝒱₀ (thr d L) none none (N := NO) rfl) $$ [Hmw HF HO]
  · isplitl [HF]; · iexact HF
    isplitl [HO]; · iexact HO
    iapply (Transfers.MayWaits.elim (.dma s)); iexact Hmw
  unfold OutD OweSt
  iintro ⟨⟨HD, Hb⟩, Hs, HO⟩
  iapply Hk
  isplitl [Hb]; · iexact Hb
  isplitl [Hs]; · iexact Hs
  isplitl [HD]
  · rw [show 2 * t - 2 + r = 2 * (t - 1) + r by omega, show 2 * t - 1 + r = 2 * (t - 1) + r + 1 by omega]
    unfold Done
    iexact HD
  iexists _; isplitr
  rotate_left
  · iexact HO
  · ipureintro; intro p hp
    rcases Finset.mem_insert.mp hp with rfl | hp
    · exact .inr rfl
    · exact hW' p hp

include zv in
/-- Before the first trip nothing is going out. -/
theorem out_free0 (O : CellTallies nD τ sig (HIx 1)) (W : Waits sig (HIx 1)) (b : Memref sig .scVector .vmem S16384 .f32) (s : DmaSem sig) (r t : ℕ) (ht : ¬ 0 < t) :
    iprop(Transfers.MayWaits (thr d L) (none : HIx 1) O ∗ OutSt d L Good b s r t ∗ OweSt d L O W) ⊢ OutFree d L Good O W b s r t := by
  obtain rfl : t = 0 := by omega
  unfold OutSt OutFree
  rw [if_pos rfl]
  iintro ⟨-, ⟨Hb, Hs⟩, HO⟩
  isplitl [Hb]; · iexact Hb
  isplitl [Hs]; · iexact Hs
  isplitr
  · rw [show 2 * 0 - 2 + r = r by omega]
    iapply (done_empty d L zv Good r); iempintro
  · iexact HO

/-- The three runs of done chunks are one. -/
theorem done_all (t : ℕ) :
    iprop(Done d L Good 0 (2 * t - 2) ∗ Done d L Good (2 * t - 2 + 0) (2 * t - 1 + 0) ∗ Done d L Good (2 * t - 2 + 1) (2 * t - 1 + 1))
      ⊢ (Done d L Good 0 (2 * t) : sProp 𝕄) := by
  by_cases ht : t = 0
  · subst ht
    iintro ⟨H, -, -⟩
    iexact H
  · rw [show 2 * t - 2 + 0 = 2 * t - 2 by omega, show 2 * t - 1 + 0 = 2 * t - 1 by omega, show 2 * t - 2 + 1 = 2 * t - 1 by omega, show 2 * t - 1 + 1 = 2 * t by omega]
    iintro ⟨H1, H2, H3⟩
    ihave H := (done_join d L Good (a := 0) (b := 2 * t - 2) (c := 2 * t - 1) (by omega) (by omega)) $$ [H1 H2]
    · isplitl [H1] <;> iassumption
    iapply (done_join d L Good (a := 0) (b := 2 * t - 1) (c := 2 * t) (by omega) (by omega))
    isplitl [H] <;> iassumption

/-- What the next trip's copy in is started from. -/
def InFree (b : Memref sig .scVector .vmem S16384 .f32) (s : DmaSem sig) (r t : ℕ) : sProp 𝕄 :=
  iprop(ZRun d L zv (2 * (t + 1) + r) (2 * (t + 1) + r + 1) ∗ (∃ f, b.view.loc (thr d L) ↦{fullShare} f) ∗ semVal (thr d L, .dma s) 0)

/-- Starting the copy of the chunk for the next trip. -/
theorem next_in {α : Type} {Q : α → sProp 𝕄} (b : Memref sig .scVector .vmem S16384 .f32) (hb : b.view.set = Finset.univ)
    (s : DmaSem sig) (r t : ℕ) (ht : t < 7) (off : Fin 1 → ℕ) (inb : ∀ a, off a + S16384.size a ≤ S8388608.size a)
    (ho : off 0 = 524288 * (2 * (t + 1) + r) + 16384 * wid L)
    {hs : (zSl off inb).view.WordExact} {hd : b.view.WordExact}
    {hsem : DmaTarget.Typed (nD := nD) .hbm (.dma s) (DmaTarget.here (p := (thr d L).2) b)}
    {kk : PUnit → Prog (TpuEff nD τ sig (Elt F) Λ₀ (thr d L).2) α} :
    InFree d L zv b s r t
      ⊢ iprop((InSt d L zv b s r (t + 1) -∗ wp frame (wpE (defs₀ (F := F)) 𝒱₀ (thr d L) none) Set.univ (kk ⟨⟩) Q)
          -∗ wp frame (wpE (defs₀ (F := F)) 𝒱₀ (thr d L) none) Set.univ (.op (.enqueueDma (zSl off inb) (.here b) (.dma s) hs hd hsem) kk) Q) := by
  unfold InFree InSt ZRun
  rw [if_pos (by omega)]
  iintro ⟨Hz, ⟨%f, Hb⟩, Hs⟩ Hk
  iapply (start_in d L zv b hb s off inb (2 * (t + 1) + r) ho f) $$ [Hz Hb Hs]
  · isplitl [Hz]; · iexact Hz
    isplitl [Hb] <;> iassumption
  iintro HF
  iapply Hk; iexact HF

/-- After the last trip nothing more comes in. -/
theorem in_free7 (b : Memref sig .scVector .vmem S16384 .f32) (s : DmaSem sig) (r t : ℕ) (ht : ¬ t < 7) :
    InFree d L zv b s r t ⊢ InSt d L zv b s r (t + 1) := by
  unfold InFree InSt
  rw [if_neg (by omega)]
  iintro ⟨-, Hb, Hs⟩
  isplitl [Hb] <;> iassumption

/-- A result buffer holding what chunk `k` of the result is to be. -/
def OutReady (b : Memref sig .scVector .vmem S16384 .f32) (k : ℕ) : sProp 𝕄 :=
  iprop(∃ f, ⌜∀ (j : S16384.Idx) (p : S8388608.Idx), (p 0).val = 524288 * k + 16384 * wid L + (j 0).val →
      Good p (b.view.read (Elt F) f j)⌝ ∗ b.view.loc (thr d L) ↦{fullShare} f)

/-- Starting the copy of this trip's chunk to the result. -/
theorem next_out {α : Type} {Q : α → sProp 𝕄} (b : Memref sig .scVector .vmem S16384 .f32) (hb : b.view.set = Finset.univ)
    (s : DmaSem sig) (r t : ℕ) (off : Fin 1 → ℕ) (inb : ∀ a, off a + S16384.size a ≤ S8388608.size a)
    (ho : off 0 = 524288 * (2 * t + r) + 16384 * wid L)
    {hs : b.view.WordExact} {hd : (oSl off inb).view.WordExact}
    {hsem : DmaTarget.Typed (nD := nD) .vmem (.dma s) (DmaTarget.here (p := (thr d L).2) (oSl off inb))}
    {kk : PUnit → Prog (TpuEff nD τ sig (Elt F) Λ₀ (thr d L).2) α} :
    iprop(OutReady d L Good b (2 * t + r) ∗ Free d L (2 * t + r) (2 * t + r + 1) ∗ semVal (thr d L, .dma s) 0)
      ⊢ iprop((OutSt d L Good b s r (t + 1) -∗ wp frame (wpE (defs₀ (F := F)) 𝒱₀ (thr d L) none) Set.univ (kk ⟨⟩) Q)
          -∗ wp frame (wpE (defs₀ (F := F)) 𝒱₀ (thr d L) none) Set.univ (.op (.enqueueDma b (.here (oSl off inb)) (.dma s) hs hd hsem) kk) Q) := by
  unfold OutReady OutSt Free
  rw [if_neg (by omega), Nat.add_sub_cancel]
  iintro ⟨⟨%f, %hf, Hb⟩, ⟨%g, Ho⟩, Hs⟩ Hk
  iapply (start_out d L Good b hb s off inb (2 * t + r) ho f hf g) $$ [Hb Ho Hs]
  · isplitl [Hb]; · iexact Hb
    isplitl [Ho] <;> iassumption
  iintro HF
  iapply Hk; iexact HF

/-- The computation of one chunk, out of one buffer into the other. -/
theorem half (v1 c0 c1 : BitVec 32) (t : Fin k0_t1_loop.trips)
    (b : Memref sig .scVector .vmem S16384 .f32) (hb : b.IsWhole) (b' : Memref sig .scVector .vmem S16384 .f32) (hb' : b'.IsWhole)
    (o : Memref sig .scVector .vmem S16384 .f32) (ho : o.IsWhole) (o' : Memref sig .scVector .vmem S16384 .f32) (ho' : o'.IsWhole)
    (k : ℕ) (hk : k < 16)
    (hix : ∀ p, (ixw (zv p)).toNat < 80) (hG : ∀ p, Good p (tabAt (tabS.view.read (Elt F) f12) (ixw (zv p)))) :
    iprop(InD d L zv b k ∗ (∃ f, o.view.loc (thr d L) ↦{fullShare} f) ∗ (tabS.view.loc (thr d L) ↦{fullShare} f12))
      ⊢ wp (M := 𝕄) frame (wpE (defs₀ (F := F)) 𝒱₀ (thr d L) none) Set.univ
          (Scf.Loop.for k0_t2_loop k0_t2_ok 0#32 (k0_t2_body L zM (Memref.isWhole_whole _) velM (Memref.isWhole_whole _) depM (Memref.isWhole_whole _) oM (Memref.isWhole_whole _)
            b hb b' hb' o ho o' ho'
            velS (Memref.isWhole_whole _) depS (Memref.isWhole_whole _) tabS (Memref.isWhole_whole _)
            cc0_scratch7 cc0_scratch8 cc0_scratch9 cc0_scratch10 cc0_scoped0 cc0_scoped1 v1 c0 c1 t))
          fun _ => iprop((∃ f, b.view.loc (thr d L) ↦{fullShare} f) ∗ ZRun d L zv k (k + 1) ∗ OutReady d L Good o k
            ∗ (tabS.view.loc (thr d L) ↦{fullShare} f12)) := by
  unfold InD ZRun OutReady
  iintro ⟨⟨⟨%f6, %hf6, Hb⟩, Hz⟩, ⟨%f8, Ho⟩, Ht⟩
  have hw := wid_lt L
  have hix' : ∀ j : S16384.Idx, (ixw (b.view.read (Elt F) f6 j)).toNat < 80 := by
    intro j
    have hj : (j 0).val < 16384 := (j 0).isLt
    rw [hf6 j (fun a => ⟨524288 * k + 16384 * wid L + (j 0).val, by
      rw [Subsingleton.elim a 0]; show _ < 8388608; omega⟩) rfl]
    exact hix _
  ihave H := (inner_loop d L zM (Memref.isWhole_whole _) velM (Memref.isWhole_whole _) depM (Memref.isWhole_whole _) oM (Memref.isWhole_whole _)
            b hb b' hb' o ho o' ho'
            velS (Memref.isWhole_whole _) depS (Memref.isWhole_whole _) tabS (Memref.isWhole_whole _)
            cc0_scratch7 cc0_scratch8 cc0_scratch9 cc0_scratch10 cc0_scoped0 cc0_scoped1 v1 c0 c1 t f6 f8 f12 hix') $$ [Hb Ho Ht]
  · isplitl [Hb]; · iexact Hb
    isplitl [Ho] <;> iassumption
  iapply (wp_then d L (Q := fun _ => iprop((b.view.loc (thr d L) ↦{fullShare} f6)
            ∗ (tabS.view.loc (thr d L) ↦{fullShare} f12)
            ∗ ∃ f8', ⌜∀ j, o.view.read (Elt F) f8' j = tabAt (tabS.view.read (Elt F) f12) (ixw (b.view.read (Elt F) f6 j))⌝
              ∗ o.view.loc (thr d L) ↦{fullShare} f8')))
  isplitl [H]; · iexact H
  iintro %_ ⟨Hb, Ht, %f8', %hf8, Ho⟩
  isplitl [Hb]; · iexists f6; iexact Hb
  isplitl [Hz]; · iexact Hz
  isplitl [Ho]
  · iexists f8'; isplitr
    · ipureintro
      intro j p hp
      rw [hf8 j, hf6 j p hp]
      exact hG p
    · iexact Ho
  · iexact Ht

/-- Between the two halves of trip `t`. -/
def midInv (O : CellTallies nD τ sig (HIx 1)) (W : Waits sig (HIx 1)) (t : ℕ) : sProp 𝕄 :=
  iprop(Transfers.MayWaits (thr d L) (none : HIx 1) O
    ∗ InSt d L zv zb0 cc0_scratch7.sem 0 (t + 1) ∗ InD d L zv zb1 (2 * t + 1) ∗ semVal (thr d L, .dma cc0_scratch8.sem) 0
    ∗ OutSt d L Good ob0 cc0_scratch9.sem 0 (t + 1) ∗ (∃ f, ob1.view.loc (thr d L) ↦{fullShare} f) ∗ semVal (thr d L, .dma cc0_scratch10.sem) 0
    ∗ ZRun d L zv 0 (2 * t + 1) ∗ ZRun d L zv (2 * t + 3) 32
    ∗ Done d L Good 0 (2 * t) ∗ Free d L (2 * t + 1) 32
    ∗ (tabS.view.loc (thr d L) ↦{fullShare} f12)
    ∗ OweSt d L O W)

/-- The first half of a trip, for the first buffers: from the invariant to what holds between the halves. -/
theorem part1_ok (O : CellTallies nD τ sig (HIx 1)) (W : Waits sig (HIx 1)) (v1 acc : BitVec 32) (t : Fin k0_t1_loop.trips)
    (hix : ∀ p, (ixw (zv p)).toNat < 80) (hG : ∀ p, Good p (tabAt (tabS.view.read (Elt F) f12) (ixw (zv p)))) :
    outerInv d L zv Good f12 O W t.val acc
      ⊢ wp (M := 𝕄) frame (wpE (defs₀ (F := F)) 𝒱₀ (thr d L) none) Set.univ
          (k0_part1 L zM (Memref.isWhole_whole _) velM (Memref.isWhole_whole _) depM (Memref.isWhole_whole _) oM (Memref.isWhole_whole _)
            zb0 (Memref.isWhole_whole _) zb1 (Memref.isWhole_whole _) ob0 (Memref.isWhole_whole _) ob1 (Memref.isWhole_whole _)
            velS (Memref.isWhole_whole _) depS (Memref.isWhole_whole _) tabS (Memref.isWhole_whole _)
            cc0_scratch7 cc0_scratch8 cc0_scratch9 cc0_scratch10 cc0_scoped0 cc0_scoped1 v1 0#32 1#32 t)
          fun r => iprop(⌜r.2.2.1 = 0#32⌝ ∗ midInv d L zv Good f12 O W t.val) := by
  have ht : t.val < 8 := lt_of_lt_of_eq t.isLt trips1
  rw [k0_part1_eq_skeleton]; unfold k0_part1_skel
  simp only [Prog.lift, Prog.bind_op, Prog.bind_ret, Prog.pure_eq_ret]
  unfold outerInv
  iintro ⟨#Hmw, Hi0, Hi1, Ho0, Ho1, Hz, Hzr, Hd, Hf, Ht, HO⟩
  iapply (wait_in d L zv O W zb0 cc0_scratch7.sem 0 t.val ht) $$ [Hi0 HO]
  · isplitr; · iexact Hmw
    isplitl [Hi0] <;> iassumption
  iintro ⟨HD, Hs7, HO⟩
  iapply (wp_dite_join d L (P := iprop(Transfers.MayWaits (thr d L) (none : HIx 1) O ∗ OutSt d L Good ob0 cc0_scratch9.sem 0 t.val ∗ OweSt d L O W))
    (P' := OutFree d L Good O W ob0 cc0_scratch9.sem 0 t.val)
    (fun h => wait_out d L Good O W ob0 cc0_scratch9.sem 0 t.val ((cond1_iff t).mp h) _ _) (fun _ => rfl)
    (fun h => out_free0 d L zv Good O W ob0 cc0_scratch9.sem 0 t.val (fun h' => h ((cond1_iff t).mpr h')))) $$ [Ho0 HO]
  · isplitr; · iexact Hmw
    isplitl [Ho0] <;> iassumption
  unfold OutFree
  iintro ⟨Ho0, Hs9, Hd0, HO⟩
  rw [wp_bind]
  iapply (wp_then d L (Q := fun _ => iprop((∃ f, zb0.view.loc (thr d L) ↦{fullShare} f) ∗ ZRun d L zv (2 * t.val + 0) (2 * t.val + 0 + 1) ∗ OutReady d L Good ob0 (2 * t.val + 0)
            ∗ (tabS.view.loc (thr d L) ↦{fullShare} f12))))
  isplitl [HD Ho0 Ht]
  · iapply (half d L zv Good f12 v1 0#32 1#32 t zb0 (Memref.isWhole_whole _) zb1 (Memref.isWhole_whole _) ob0 (Memref.isWhole_whole _) ob1 (Memref.isWhole_whole _)
      (2 * t.val + 0) (by omega) hix hG)
    isplitl [HD]; · iexact HD
    isplitl [Ho0] <;> iassumption
  iintro %_ ⟨Hb, Hzc, Hr, Ht⟩
  ihave Hf' := (free_split d L (a := 2 * t.val) (b := 2 * t.val + 0 + 1) (c := 32) (by omega) (by omega)) $$ Hf
  icases Hf' with ⟨Hfc, Hf⟩
  iapply (next_out d L Good ob0 (View.set_whole _) cc0_scratch9.sem 0 t.val (k0_off6 L t 0#32) (k0_off6_inb L t 0)
    (by rw [show k0_off6 L t 0#32 = _ from k0_off6_eq L t 0]; simp [wid]; omega)) $$ [Hr Hfc Hs9]
  · isplitl [Hr]; · iexact Hr
    isplitl [Hfc] <;> iassumption
  iintro Ho0
  ihave Hz' := (zrun_split d L zv (a := 2 * t.val + 2) (b := 2 * t.val + 3) (c := 32) (by omega) (by omega)).1 $$ Hzr
  icases Hz' with ⟨Hzn, Hzr⟩
  iapply (wp_dite_join d L (P := InFree d L zv zb0 cc0_scratch7.sem 0 t.val)
    (P' := InSt d L zv zb0 cc0_scratch7.sem 0 (t.val + 1))
    (fun h => next_in d L zv zb0 (View.set_whole _) cc0_scratch7.sem 0 t.val ((cond2_iff t).mp h) _ _
      (by rw [k0_off7_eq]; simp [wid]; omega)) (fun _ => rfl)
    (fun h => in_free7 d L zv zb0 cc0_scratch7.sem 0 t.val (fun h' => h ((cond2_iff t).mpr h')))) $$ [Hzn Hb Hs7]
  · unfold InFree
    isplitl [Hzn]; · iexact Hzn
    isplitl [Hb] <;> iassumption
  iintro Hi0
  iapply (wait_in d L zv O W zb1 cc0_scratch8.sem 1 t.val ht) $$ [Hi1 HO]
  · isplitr; · iexact Hmw
    isplitl [Hi1] <;> iassumption
  iintro ⟨HD1, Hs8, HO⟩
  iapply (wp_dite_join d L (P := iprop(Transfers.MayWaits (thr d L) (none : HIx 1) O ∗ OutSt d L Good ob1 cc0_scratch10.sem 1 t.val ∗ OweSt d L O W))
    (P' := OutFree d L Good O W ob1 cc0_scratch10.sem 1 t.val)
    (fun h => wait_out d L Good O W ob1 cc0_scratch10.sem 1 t.val ((cond3_iff t).mp h) _ _) (fun _ => rfl)
    (fun h => out_free0 d L zv Good O W ob1 cc0_scratch10.sem 1 t.val (fun h' => h ((cond3_iff t).mpr h')))) $$ [Ho1 HO]
  · isplitr; · iexact Hmw
    isplitl [Ho1] <;> iassumption
  unfold OutFree
  iintro ⟨Ho1, Hs10, Hd1, HO⟩
  rw [wp_ret]; imodintro
  isplitr
  · ipureintro; rfl
  unfold midInv
  isplitr; · iexact Hmw
  isplitl [Hi0]; · iexact Hi0
  isplitl [HD1]; · iexact HD1
  isplitl [Hs8]; · iexact Hs8
  isplitl [Ho0]; · iexact Ho0
  isplitl [Ho1]; · iexact Ho1
  isplitl [Hs10]; · iexact Hs10
  isplitl [Hz Hzc]
  · iapply (zrun_split d L zv (a := 0) (b := 2 * t.val) (c := 2 * t.val + 1) (by omega) (by omega)).2
    isplitl [Hz] <;> iassumption
  isplitl [Hzr]; · iexact Hzr
  isplitl [Hd Hd0 Hd1]
  · iapply (done_all d L Good t.val)
    isplitl [Hd]; · iexact Hd
    isplitl [Hd0] <;> iassumption
  isplitl [Hf]; · iexact Hf
  isplitl [Ht] <;> iassumption

/-- The whole outer loop, from no chunk to all of them. -/
theorem outer_loop (O : CellTallies nD τ sig (HIx 1)) (W : Waits sig (HIx 1))
    (v1 : BitVec 32) (v2 v3 v477 v552 : Vec F S16 .f32) (v554 v556 : F .f32)
    (hix : ∀ p, (ixw (zv p)).toNat < 80) (hG : ∀ p, Good p (tabAt (tabS.view.read (Elt F) f12) (ixw (zv p)))) :
    outerInv d L zv Good f12 O W 0 0#32
      ⊢ wp (M := 𝕄) frame (wpE (defs₀ (F := F)) 𝒱₀ (thr d L) none) Set.univ
          (Scf.Loop.for k0_t1_loop k0_t1_ok 0#32 (k0_t1_body L zM (Memref.isWhole_whole _) velM (Memref.isWhole_whole _) depM (Memref.isWhole_whole _) oM (Memref.isWhole_whole _)
            zb0 (Memref.isWhole_whole _) zb1 (Memref.isWhole_whole _) ob0 (Memref.isWhole_whole _) ob1 (Memref.isWhole_whole _)
            velS (Memref.isWhole_whole _) depS (Memref.isWhole_whole _) tabS (Memref.isWhole_whole _)
            cc0_scratch7 cc0_scratch8 cc0_scratch9 cc0_scratch10 cc0_scoped0 cc0_scoped1 v1 v2 v3 v477 v552 v554 v556))
          fun _ => outerInv d L zv Good f12 O W 8 0#32 := by
  iintro H
  sl_for (outerInv d L zv Good f12 O W) $$ [H]
  case region =>
    intro t acc
    have ht : t.val < 8 := lt_of_lt_of_eq t.isLt trips1
    unfold outer_loop.sl.prog.body_1 k0_t1_body
    rw [wp_bind]
    refine (part1_ok d L zv Good f12 O W v1 acc t hix hG).trans (wp_mono frame _ _ fun r => ?_)
    obtain ⟨r1, r2, r3, r4⟩ := r
    iintro ⟨%hr, HM⟩
    dsimp only at hr
    subst hr
    unfold midInv
    icases HM with ⟨#Hmw, Hi0, HD1, Hs8, Ho0, Ho1, Hs10, Hz, Hzr, Hd, Hf, Ht, HO⟩
    dsimp only
    rw [loop3_eq L _ _ _ _ _ _ _ _ _ _ _ _ _ _ _ _ _ _ _ _ _ _ _ _ _ _ _ _ v1 0#32 1#32 t]
    simp only [Prog.lift, Prog.bind_op, Prog.bind_ret, Prog.pure_eq_ret]
    rw [wp_bind]
    iapply (wp_then d L (Q := fun _ => iprop((∃ f, zb1.view.loc (thr d L) ↦{fullShare} f) ∗ ZRun d L zv (2 * t.val + 1) (2 * t.val + 1 + 1) ∗ OutReady d L Good ob1 (2 * t.val + 1)
              ∗ (tabS.view.loc (thr d L) ↦{fullShare} f12))))
    isplitl [HD1 Ho1 Ht]
    · iapply (half d L zv Good f12 v1 0#32 1#32 t zb1 (Memref.isWhole_whole _) zb0 (Memref.isWhole_whole _) ob1 (Memref.isWhole_whole _) ob0 (Memref.isWhole_whole _)
        (2 * t.val + 1) (by omega) hix hG)
      isplitl [HD1]; · iexact HD1
      isplitl [Ho1] <;> iassumption
    iintro %_ ⟨Hb, Hzc, Hr, Ht⟩
    ihave Hf' := (free_split d L (a := 2 * t.val + 1) (b := 2 * t.val + 1 + 1) (c := 32) (by omega) (by omega)) $$ Hf
    icases Hf' with ⟨Hfc, Hf⟩
    iapply (next_out d L Good ob1 (View.set_whole _) cc0_scratch10.sem 1 t.val (k0_off6 L t 1#32) (k0_off6_inb L t 1)
      (by rw [show k0_off6 L t 1#32 = _ from k0_off6_eq L t 1]; simp [wid]; omega)) $$ [Hr Hfc Hs10]
    · isplitl [Hr]; · iexact Hr
      isplitl [Hfc] <;> iassumption
    iintro Ho1
    ihave Hz' := (zrun_split d L zv (a := 2 * t.val + 3) (b := 2 * t.val + 4) (c := 32) (by omega) (by omega)).1 $$ Hzr
    icases Hz' with ⟨Hzn, Hzr⟩
    iapply (wp_dite_join d L (P := InFree d L zv zb1 cc0_scratch8.sem 1 t.val)
      (P' := InSt d L zv zb1 cc0_scratch8.sem 1 (t.val + 1))
      (fun h => next_in d L zv zb1 (View.set_whole _) cc0_scratch8.sem 1 t.val ((cond4_iff t).mp h) _ _
        (by rw [k0_off11_eq]; simp [wid]; omega)) (fun _ => rfl)
      (fun h => in_free7 d L zv zb1 cc0_scratch8.sem 1 t.val (fun h' => h ((cond4_iff t).mpr h')))) $$ [Hzn Hb Hs8]
    · unfold InFree
      isplitl [Hzn]; · iexact Hzn
      isplitl [Hb] <;> iassumption
    iintro Hi1
    rw [wp_ret]; imodintro
    unfold outerInv
    isplitr; · iexact Hmw
    isplitl [Hi0]; · iexact Hi0
    isplitl [Hi1]; · iexact Hi1
    isplitl [Ho0]; · iexact Ho0
    isplitl [Ho1]; · iexact Ho1
    isplitl [Hz Hzc]
    · iapply (zrun_split d L zv (a := 0) (b := 2 * t.val + 1) (c := 2 * t.val + 1 + 1) (by omega) (by omega)).2
      isplitl [Hz] <;> iassumption
    isplitl [Hzr]; · iexact Hzr
    isplitl [Hd]; · iexact Hd
    isplitl [Hf]; · iexact Hf
    isplitl [Ht] <;> iassumption
  · isplitl [H]; · iexact H
    iintro %acc H
    have e : Scf.Loop.trips k0_t1_loop = 8 := trips1
    iexact H

end Loop

end Cert.Proof.KI
-- ==== Proof.IdealTable.lean ====
/-
  The table: eighty entries built sixteen at a time from the ten velocities and the ten depths, and the copies that
  bring those in.
-/
module

public import proofs.«01_k».proof.Proof.IdealLoop

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Chunks

variable {F : FTy → Type}

local notation "𝕄" => MT nD τ sig (HIx 1) (Elt F) ℕ UU ℕ

variable [FloatOps F] [Named F]

/-! ## The entries -/

/-- A single lane is a slice of the register. -/
theorem slices_lane (n : ℕ) (h : n < 16) : S16.Slices ![n] S1 := by
  refine ⟨rfl, fun a => ?_⟩
  obtain rfl : a = 0 := Subsingleton.elim _ _
  show n + 1 ≤ 16
  omega

/-- Lane `n` of a sixteen-lane vector. -/
def lane (v : Vec F S16 .f32) (n : ℕ) (h : n < 16) : F .f32 := extractAt ![0] (extractStridedSlice S1 ![n] v (slices_lane n h)) inpos_S1_p0

/-- A lane taken out of a register is the register's entry. -/
theorem lane_eq (v : Vec F S16 .f32) (n : ℕ) (h : n < 16) (l : S16.Idx) (hl : (l 0).val = n) : lane v n h = v l := by
  unfold lane extractAt extractStridedSlice
  congr 1
  funext a
  obtain rfl : a = 0 := Subsingleton.elim _ _
  apply Fin.ext
  show n + 0 = (l 0).val
  omega

/-- The left ends of sixteen bins, `50 (16 n + lane)`. -/
def binVec (n : ℕ) : FVec F S16 .f32 :=
  mulf (sitofp .f32 (addi (iota .scVector S16 32 [0] iota_S16_d0_w32_scVector) (broadcast S16 (BitVec.ofNat 32 (16 * n)))))
    (broadcast S16 (Scalar.ofBits .f32 0x42480000#32))

/-- One interface's step on sixteen entries: those at or past it move to the next velocity. -/
def stepV (v2 v3 : Vec F S16 .f32) (c acc : FVec F S16 .f32) (j : Fin 9) : FVec F S16 .f32 :=
  select (cmpf .oge c (broadcast S16 (lane v3 j.val (by omega))))
    (addf acc (broadcast S16 (Scalar.subf (lane v2 (j.val + 1) (by omega)) (lane v2 j.val (by omega))))) acc

/-- Sixteen entries of the table: the first velocity and nine steps. -/
def rowV (v2 v3 : Vec F S16 .f32) (c : FVec F S16 .f32) : FVec F S16 .f32 :=
  stepV v2 v3 c (stepV v2 v3 c (stepV v2 v3 c (stepV v2 v3 c (stepV v2 v3 c (stepV v2 v3 c (stepV v2 v3 c (stepV v2 v3 c (stepV v2 v3 c
    (broadcast S16 (lane v2 0 (by omega))) 0) 1) 2) 3) 4) 5) 6) 7) 8

/-- The whole table. -/
def tabOf (v2 v3 : Vec F S16 .f32) : S80.Idx → F .f32 := fun i =>
  rowV v2 v3 (binVec ((i 0).val / 16)) fun a => ⟨(i 0).val % 16, by rw [Subsingleton.elim a 0]; exact Nat.mod_lt _ (by decide)⟩

abbrev v4V : IVec S16 32 := iota .scVector S16 32 [0] iota_S16_d0_w32_scVector

/-- The body's first sixteen entries are such a row. -/
theorem row0 (v2 v3 : Vec F S16 .f32) :
    k0_pay9 v2 v3 k0_pay2 (k0_pay6 v2 v3 k0_pay2 (k0_pay3 v2 v3) (k0_pay4 v2) (k0_pay5 v3)) (k0_pay7 v2) (k0_pay8 v3) = rowV v2 v3 (binVec 0) := rfl

/-- So are the second sixteen. -/
theorem row1 (v2 v3 : Vec F S16 .f32) :
    k0_pay17 v2 v3 (k0_pay10 v4V) (k0_pay14 v2 v3 (k0_pay10 v4V) (k0_pay11 v2 v3 v4V) (k0_pay12 v2) (k0_pay13 v3)) (k0_pay15 v2) (k0_pay16 v3)
      = rowV v2 v3 (binVec 1) := rfl

/-- The third. -/
theorem row2 (v2 v3 : Vec F S16 .f32) :
    k0_pay25 v2 v3 (k0_pay18 v4V) (k0_pay22 v2 v3 (k0_pay18 v4V) (k0_pay19 v2 v3 v4V) (k0_pay20 v2) (k0_pay21 v3)) (k0_pay23 v2) (k0_pay24 v3)
      = rowV v2 v3 (binVec 2) := rfl

/-- The fourth. -/
theorem row3 (v2 v3 : Vec F S16 .f32) :
    k0_pay31 v2 v3 (k0_pay26 v4V) (k0_pay29 v2 v3 (k0_pay26 v4V) (k0_pay27 v2 v3 v4V) (k0_pay28 v2)) (k0_pay30 v2)
      = rowV v2 v3 (binVec 3) := rfl

/-- The fifth. -/
theorem row4 (v2 v3 : Vec F S16 .f32) :
    k0_pay39 v2 v3 (k0_pay32 v4V) (k0_pay36 v2 v3 (k0_pay32 v4V) (k0_pay33 v2 v3 v4V) (k0_pay34 v2) (k0_pay35 v2)) (k0_pay37 v2) (k0_pay38 v2)
      = rowV v2 v3 (binVec 4) := rfl

/-! ## The stores -/

section Stores

variable (f : tabS.view.ty.Contents (Elt F))

/-- What the table holds after a store of sixteen entries. -/
theorem store_read (o : ℕ) (inb : ∀ a, (![o] : Fin 1 → ℕ) a + S16.size a ≤ S80.size a) (w : S16.Idx → F .f32) (i : S80.Idx) :
    tabS.view.read (Elt F) ((tabS.access (Rect.unit (s := S80) ![o] S16.size inb)).write (Elt F) f w Finset.univ) i
      = if o ≤ (i 0).val ∧ (i 0).val < o + 16 then w fun a => ⟨((i 0).val - o) % 16, by rw [Subsingleton.elim a 0]; exact Nat.mod_lt _ (by decide)⟩
        else tabS.view.read (Elt F) f i := by
  split_ifs with h
  · obtain ⟨x, rfl⟩ : ∃ x, (Rect.unit (s := S80) ![o] S16.size inb).emb x = i := by
      refine ⟨fun a => ⟨(i 0).val - o, ?_⟩, ?_⟩
      · obtain rfl : a = 0 := Subsingleton.elim _ _
        show (i 0).val - o < 16; omega
      · funext a
        obtain rfl : a = 0 := Subsingleton.elim _ _
        apply Fin.ext
        show o + 1 * ((i 0).val - o) = (i 0).val
        omega
    refine (View.read_slice_write_emb (v := tabS.view) (Rect.unit (s := S80) ![o] S16.size inb) f _ (Finset.mem_univ _)).trans ?_
    congr 1
    funext a
    obtain rfl : a = 0 := Subsingleton.elim _ _
    apply Fin.ext
    have hx : (x 0).val < 16 := (x 0).isLt
    show (x 0).val = (o + 1 * (x 0).val - o) % 16
    omega
  · refine View.read_slice_write_of_not_mem (v := tabS.view) (Rect.unit (s := S80) ![o] S16.size inb) f _ _ ?_
    intro hm
    obtain ⟨x, -, rfl⟩ := Finset.mem_map.mp hm
    have hx : (x 0).val < 16 := (x 0).isLt
    have e : (((Rect.unit (s := S80) ![o] S16.size inb).emb x 0 : Fin _) : Nat) = o + 1 * (x 0).val := rfl
    omega

/-- The five stores leave the table. -/
theorem stores_read (v2 v3 : Vec F S16 .f32) :
    tabS.view.read (Elt F) ((tabS.access (Rect.unit (s := S80) ![64] S16.size inb_S80_S16_64)).write (Elt F)
      ((tabS.access (Rect.unit (s := S80) ![48] S16.size inb_S80_S16_48)).write (Elt F)
        ((tabS.access (Rect.unit (s := S80) ![32] S16.size inb_S80_S16_32)).write (Elt F)
          ((tabS.access (Rect.unit (s := S80) ![16] S16.size inb_S80_S16_16)).write (Elt F)
            ((tabS.access (Rect.unit (s := S80) ![0] S16.size inb_S80_S16_0)).write (Elt F) f
              (rowV v2 v3 (binVec 0)) Finset.univ)
            (rowV v2 v3 (binVec 1)) Finset.univ)
          (rowV v2 v3 (binVec 2)) Finset.univ)
        (rowV v2 v3 (binVec 3)) Finset.univ)
      (rowV v2 v3 (binVec 4)) Finset.univ) = tabOf v2 v3 := by
  funext i
  have hi : (i 0).val < 80 := (i 0).isLt
  have key : ∀ n : ℕ, 16 * n ≤ (i 0).val ∧ (i 0).val < 16 * n + 16 →
      rowV v2 v3 (binVec n) (fun a => ⟨((i 0).val - 16 * n) % 16, by rw [Subsingleton.elim a 0]; exact Nat.mod_lt _ (by decide)⟩) = tabOf v2 v3 i := by
    intro n hn
    obtain rfl : n = (i 0).val / 16 := by omega
    unfold tabOf
    congr 1
    funext a
    apply Fin.ext
    show ((i 0).val - 16 * ((i 0).val / 16)) % 16 = (i 0).val % 16
    omega
  rw [store_read]; split_ifs with h4
  · exact key 4 h4
  rw [store_read]; split_ifs with h3
  · exact key 3 h3
  rw [store_read]; split_ifs with h2
  · exact key 2 h2
  rw [store_read]; split_ifs with h1
  · exact key 1 h1
  rw [store_read]; split_ifs with h0
  · exact key 0 h0
  omega

end Stores

/-- The table's contents, from velocities and depths the first ten lanes of two vectors agree with. -/
def TabOK (vl dp : S10.Idx → F .f32) (f : S80.Idx → F .f32) : Prop :=
  ∃ v2 v3 : Vec F S16 .f32, (∀ (l : S16.Idx) (j : S10.Idx), (l 0).val = (j 0).val → v2 l = vl j)
    ∧ (∀ (l : S16.Idx) (j : S10.Idx), (l 0).val = (j 0).val → v3 l = dp j) ∧ f = tabOf v2 v3

/-! ## The two small copies -/

section Copies

variable (d : Dev nD) (L : grid0.Coords)

/-- A lane below ten of a register loaded after the small copy is the entry copied. -/
theorem copy_read (b : Memref sig .scVector .vmem S16 .f32) (f : b.view.ty.Contents (Elt F)) (w : S10.Idx → F .f32) (l : S16.Idx) (j : S10.Idx)
    (h : (l 0).val = (j 0).val) :
    b.view.readAt (Elt F) (Rect.unit (s := S16) ![0] S16.size inb_S16_S16_0).toLoadRect
      ((b.slice (Rect.unit (s := S16) ![0] S10.size inb_S16_S10_0) (fun _ => rfl)).view.write (Elt F) f w Finset.univ) l = w j := by
  rw [View.readAt_apply]
  have e : (Rect.unit (s := S16) ![0] S16.size inb_S16_S16_0).toLoadRect.idx l = (Rect.unit (s := S16) ![0] S10.size inb_S16_S10_0).emb j := by
    funext a
    obtain rfl : a = 0 := Subsingleton.elim _ _
    apply Fin.ext
    show 0 + 1 * (l 0).val = 0 + 1 * (j 0).val
    omega
  rw [e]
  exact View.read_slice_write_emb (v := b.view) (Rect.unit (s := S16) ![0] S10.size inb_S16_S10_0) f _ (Finset.mem_univ _)

/-- The copy of a table of ten into the first ten words of a buffer, with its wait. -/
theorem copy10 {α : Type} {Q : α → sProp 𝕄} (O : CellTallies nD τ sig (HIx 1)) (W : Waits sig (HIx 1))
    (a : Memref sig .scVector .hbm S10 .f32) (ha : a.view.set = Finset.univ) (b : Memref sig .scVector .vmem S16 .f32) (s : DmaSem sig)
    (q : PosShare TreeShare) (fs : Buf (Elt F) (a.view.loc (thr d L))) (f : Buf (Elt F) (b.view.loc (thr d L)))
    {hs hs' : a.view.WordExact} {hd hd' : (b.slice (Rect.unit (s := S16) ![0] S10.size inb_S16_S10_0) (fun _ => rfl)).view.WordExact}
    {hsem : DmaTarget.Typed (nD := nD) .hbm (.dma s) (DmaTarget.here (p := (thr d L).2) (b.slice (Rect.unit (s := S16) ![0] S10.size inb_S16_S10_0) (fun _ => rfl)))}
    {kk : PUnit → Prog (TpuEff nD τ sig (Elt F) Λ₀ (thr d L).2) α} :
    iprop(Transfers.MayWaits (thr d L) (none : HIx 1) O ∗ (a.view.loc (thr d L) ↦{q} fs) ∗ (b.view.loc (thr d L) ↦{fullShare} f)
        ∗ semVal (thr d L, .dma s) 0 ∗ OweSt d L O W)
      ⊢ iprop((iprop((a.view.loc (thr d L) ↦{q} fs)
              ∗ (∃ f', ⌜∀ (l : S16.Idx) (j : S10.Idx), (l 0).val = (j 0).val →
                  b.view.readAt (Elt F) (Rect.unit (s := S16) ![0] S16.size inb_S16_S16_0).toLoadRect f' l = a.view.read (Elt F) fs j⌝
                ∗ b.view.loc (thr d L) ↦{fullShare} f')
              ∗ semVal (thr d L, .dma s) 0 ∗ OweSt d L O W)
            -∗ wp frame (wpE (defs₀ (F := F)) 𝒱₀ (thr d L) none) Set.univ (kk ⟨⟩) Q)
          -∗ wp frame (wpE (defs₀ (F := F)) 𝒱₀ (thr d L) none) Set.univ
            (.op (.enqueueDma a (.here (b.slice (Rect.unit (s := S16) ![0] S10.size inb_S16_S10_0) (fun _ => rfl))) (.dma s) hs hd hsem) fun _ =>
              .op (.waitDma2 s a (b.slice (Rect.unit (s := S16) ![0] S10.size inb_S16_S10_0) (fun _ => rfl)) hs' hd') kk) Q) := by
  unfold OweSt
  iintro ⟨Hmw, Ha, Hb, Hs, %W', %hW', HO⟩ Hk
  iapply (Transfers.wp_dmaLocal (countersEmb (U := UU)) 𝒱₀ (thr d L) none (src := a)
    (dst := b.slice (Rect.unit (s := S16) ![0] S10.size inb_S16_S10_0) (fun _ => rfl)) (sm := .dma s) (q := q) (fs := fs) (Sd := Finset.univ) (fd := f)
    none _ (View.amount_dma _ _) (View.dmaCredit_pos _ (by decide)) (Finset.subset_univ _)) $$ [Ha Hb Hs]
  · rw [ha]
    isplitl [Ha]; · iexact Ha
    isplitl [Hb] <;> iassumption
  iintro HF
  iapply (Transfers.wp_waitLocalO (countersEmb (U := UU)) 𝒱₀ (thr d L) none none rfl) $$ [Hmw HF HO]
  · isplitl [HF]; · iexact HF
    isplitl [HO]; · iexact HO
    iapply (Transfers.MayWaits.elim (.dma s)); iexact Hmw
  rw [ha]
  iintro ⟨⟨Hb, Ha⟩, Hs, HO⟩
  iapply Hk
  isplitl [Ha]; · iexact Ha
  isplitl [Hb]
  · iexists _; isplitr
    rotate_left
    · iexact Hb
    · ipureintro
      intro l j h
      exact copy_read b f _ l j h
  isplitl [Hs]; · iexact Hs
  iexists _; isplitr
  rotate_left
  · iexact HO
  · ipureintro; intro p hp
    rcases Finset.mem_insert.mp hp with rfl | hp
    · exact .inr rfl
    · exact hW' p hp

end Copies

end Cert.Proof.KI
-- ==== Proof.IdealTile.lean ====
/-
  One tile's task: the two small copies, the table, the loop over its sixteen chunks, the last two waits.
-/
module

public import proofs.«01_k».proof.Proof.IdealTable

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Chunks

variable {F : FTy → Type}

local notation "𝕄" => MT nD τ sig (HIx 1) (Elt F) ℕ UU ℕ

abbrev K : SparseCore.Cfg τ sig (ΛP (F := F)) 1 := sc (F := F)

section Own

variable (d : Dev nD) (L : grid0.Coords)

/-- Different semaphores are different cells. -/
theorem dma_ne {s s' : DmaSem sig} (h : s ≠ s') : ((thr d L, SemLoc.dma s) : GSem nD τ sig) ≠ (thr d L, SemLoc.dma s') :=
  fun e => h (SemLoc.dma.inj (Prod.ext_iff.mp e).2)

/-- The six semaphores among the tile's own. -/
theorem ownSems0_tile :
    (ownSems0 (thr d L) : sProp 𝕄)
      = iprop(semVal (thr d L, SemLoc.dma cc0_scratch7.sem) 0
          ∗ semVal (thr d L, SemLoc.dma cc0_scratch8.sem) 0
          ∗ semVal (thr d L, SemLoc.dma cc0_scratch9.sem) 0
          ∗ semVal (thr d L, SemLoc.dma cc0_scratch10.sem) 0
          ∗ semVal (thr d L, SemLoc.dma cc0_scoped0.sem) 0
          ∗ semVal (thr d L, SemLoc.dma cc0_scoped1.sem) 0
          ∗ bigSep (((((((ownCells (thr d L)).erase (thr d L, SemLoc.dma cc0_scratch7.sem)).erase (thr d L, SemLoc.dma cc0_scratch8.sem)).erase (thr d L, SemLoc.dma cc0_scratch9.sem)).erase (thr d L, SemLoc.dma cc0_scratch10.sem)).erase (thr d L, SemLoc.dma cc0_scoped0.sem)).erase (thr d L, SemLoc.dma cc0_scoped1.sem)) fun g => semVal g 0) := by
  unfold SparseCore.Cfg.ownSems0
  rw [SparseCore.bigSep_erase' ((mem_ownCells (g := (thr d L, SemLoc.dma cc0_scratch7.sem))).mpr ⟨rfl, by show (SemLoc.dma cc0_scratch7.sem : SemLoc sig).isScoped .scVector = true; decide⟩),
    SparseCore.bigSep_erase' (Finset.mem_erase.mpr ⟨dma_ne d L (by decide), ((mem_ownCells (g := (thr d L, SemLoc.dma cc0_scratch8.sem))).mpr ⟨rfl, by show (SemLoc.dma cc0_scratch8.sem : SemLoc sig).isScoped .scVector = true; decide⟩)⟩),
    SparseCore.bigSep_erase' (Finset.mem_erase.mpr ⟨dma_ne d L (by decide), (Finset.mem_erase.mpr ⟨dma_ne d L (by decide), ((mem_ownCells (g := (thr d L, SemLoc.dma cc0_scratch9.sem))).mpr ⟨rfl, by show (SemLoc.dma cc0_scratch9.sem : SemLoc sig).isScoped .scVector = true; decide⟩)⟩)⟩),
    SparseCore.bigSep_erase' (Finset.mem_erase.mpr ⟨dma_ne d L (by decide), (Finset.mem_erase.mpr ⟨dma_ne d L (by decide), (Finset.mem_erase.mpr ⟨dma_ne d L (by decide), ((mem_ownCells (g := (thr d L, SemLoc.dma cc0_scratch10.sem))).mpr ⟨rfl, by show (SemLoc.dma cc0_scratch10.sem : SemLoc sig).isScoped .scVector = true; decide⟩)⟩)⟩)⟩),
    SparseCore.bigSep_erase' (Finset.mem_erase.mpr ⟨dma_ne d L (by decide), (Finset.mem_erase.mpr ⟨dma_ne d L (by decide), (Finset.mem_erase.mpr ⟨dma_ne d L (by decide), (Finset.mem_erase.mpr ⟨dma_ne d L (by decide), ((mem_ownCells (g := (thr d L, SemLoc.dma cc0_scoped0.sem))).mpr ⟨rfl, by show (SemLoc.dma cc0_scoped0.sem : SemLoc sig).isScoped .scVector = true; decide⟩)⟩)⟩)⟩)⟩),
    SparseCore.bigSep_erase' (Finset.mem_erase.mpr ⟨dma_ne d L (by decide), (Finset.mem_erase.mpr ⟨dma_ne d L (by decide), (Finset.mem_erase.mpr ⟨dma_ne d L (by decide), (Finset.mem_erase.mpr ⟨dma_ne d L (by decide), (Finset.mem_erase.mpr ⟨dma_ne d L (by decide), ((mem_ownCells (g := (thr d L, SemLoc.dma cc0_scoped1.sem))).mpr ⟨rfl, by show (SemLoc.dma cc0_scoped1.sem : SemLoc sig).isScoped .scVector = true; decide⟩)⟩)⟩)⟩)⟩)⟩)]

/-- The seven scratch buffers among the tile's own, and the rest. -/
theorem ownBufs_tile :
    (ownBufs (thr d L) : sProp 𝕄)
      = iprop((∃ f, (thr d L).loc cc0_scratch0 ↦{fullShare} f)
          ∗ (∃ f, (thr d L).loc cc0_scratch1 ↦{fullShare} f)
          ∗ (∃ f, (thr d L).loc cc0_scratch2 ↦{fullShare} f)
          ∗ (∃ f, (thr d L).loc cc0_scratch3 ↦{fullShare} f)
          ∗ (∃ f, (thr d L).loc cc0_scratch4 ↦{fullShare} f)
          ∗ (∃ f, (thr d L).loc cc0_scratch5 ↦{fullShare} f)
          ∗ (∃ f, (thr d L).loc cc0_scratch6 ↦{fullShare} f)
          ∗ bigSep ((((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)).erase ((Proc.scVector (cV L) (jV L)).devRef cc0_scratch6))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := ((Proc.scVector (cV L) (jV L)).devRef cc0_scratch0)) rfl)).trans ?_
  rw [SparseCore.bigSep_erase' (Finset.mem_erase.mpr ⟨fun e => absurd (Proc.devRef_injective _ e) (show (cc0_scratch1 : Ref sig .scVector) ≠ cc0_scratch0 by decide), (SparseCore.Cfg.mem_ownRefs_of_owner (p := Proc.scVector (cV L) (jV L)) (b := ((Proc.scVector (cV L) (jV L)).devRef cc0_scratch1)) rfl)⟩),
    SparseCore.bigSep_erase' (Finset.mem_erase.mpr ⟨fun e => absurd (Proc.devRef_injective _ e) (show (cc0_scratch2 : Ref sig .scVector) ≠ cc0_scratch1 by decide), (Finset.mem_erase.mpr ⟨fun e => absurd (Proc.devRef_injective _ e) (show (cc0_scratch2 : Ref sig .scVector) ≠ cc0_scratch0 by decide), (SparseCore.Cfg.mem_ownRefs_of_owner (p := Proc.scVector (cV L) (jV L)) (b := ((Proc.scVector (cV L) (jV L)).devRef cc0_scratch2)) rfl)⟩)⟩),
    SparseCore.bigSep_erase' (Finset.mem_erase.mpr ⟨fun e => absurd (Proc.devRef_injective _ e) (show (cc0_scratch3 : Ref sig .scVector) ≠ cc0_scratch2 by decide), (Finset.mem_erase.mpr ⟨fun e => absurd (Proc.devRef_injective _ e) (show (cc0_scratch3 : Ref sig .scVector) ≠ cc0_scratch1 by decide), (Finset.mem_erase.mpr ⟨fun e => absurd (Proc.devRef_injective _ e) (show (cc0_scratch3 : Ref sig .scVector) ≠ cc0_scratch0 by decide), (SparseCore.Cfg.mem_ownRefs_of_owner (p := Proc.scVector (cV L) (jV L)) (b := ((Proc.scVector (cV L) (jV L)).devRef cc0_scratch3)) rfl)⟩)⟩)⟩),
    SparseCore.bigSep_erase' (Finset.mem_erase.mpr ⟨fun e => absurd (Proc.devRef_injective _ e) (show (cc0_scratch4 : Ref sig .scVector) ≠ cc0_scratch3 by decide), (Finset.mem_erase.mpr ⟨fun e => absurd (Proc.devRef_injective _ e) (show (cc0_scratch4 : Ref sig .scVector) ≠ cc0_scratch2 by decide), (Finset.mem_erase.mpr ⟨fun e => absurd (Proc.devRef_injective _ e) (show (cc0_scratch4 : Ref sig .scVector) ≠ cc0_scratch1 by decide), (Finset.mem_erase.mpr ⟨fun e => absurd (Proc.devRef_injective _ e) (show (cc0_scratch4 : Ref sig .scVector) ≠ cc0_scratch0 by decide), (SparseCore.Cfg.mem_ownRefs_of_owner (p := Proc.scVector (cV L) (jV L)) (b := ((Proc.scVector (cV L) (jV L)).devRef cc0_scratch4)) rfl)⟩)⟩)⟩)⟩),
    SparseCore.bigSep_erase' (Finset.mem_erase.mpr ⟨fun e => absurd (Proc.devRef_injective _ e) (show (cc0_scratch5 : Ref sig .scVector) ≠ cc0_scratch4 by decide), (Finset.mem_erase.mpr ⟨fun e => absurd (Proc.devRef_injective _ e) (show (cc0_scratch5 : Ref sig .scVector) ≠ cc0_scratch3 by decide), (Finset.mem_erase.mpr ⟨fun e => absurd (Proc.devRef_injective _ e) (show (cc0_scratch5 : Ref sig .scVector) ≠ cc0_scratch2 by decide), (Finset.mem_erase.mpr ⟨fun e => absurd (Proc.devRef_injective _ e) (show (cc0_scratch5 : Ref sig .scVector) ≠ cc0_scratch1 by decide), (Finset.mem_erase.mpr ⟨fun e => absurd (Proc.devRef_injective _ e) (show (cc0_scratch5 : Ref sig .scVector) ≠ cc0_scratch0 by decide), (SparseCore.Cfg.mem_ownRefs_of_owner (p := Proc.scVector (cV L) (jV L)) (b := ((Proc.scVector (cV L) (jV L)).devRef cc0_scratch5)) rfl)⟩)⟩)⟩)⟩)⟩),
    SparseCore.bigSep_erase' (Finset.mem_erase.mpr ⟨fun e => absurd (Proc.devRef_injective _ e) (show (cc0_scratch6 : Ref sig .scVector) ≠ cc0_scratch5 by decide), (Finset.mem_erase.mpr ⟨fun e => absurd (Proc.devRef_injective _ e) (show (cc0_scratch6 : Ref sig .scVector) ≠ cc0_scratch4 by decide), (Finset.mem_erase.mpr ⟨fun e => absurd (Proc.devRef_injective _ e) (show (cc0_scratch6 : Ref sig .scVector) ≠ cc0_scratch3 by decide), (Finset.mem_erase.mpr ⟨fun e => absurd (Proc.devRef_injective _ e) (show (cc0_scratch6 : Ref sig .scVector) ≠ cc0_scratch2 by decide), (Finset.mem_erase.mpr ⟨fun e => absurd (Proc.devRef_injective _ e) (show (cc0_scratch6 : Ref sig .scVector) ≠ cc0_scratch1 by decide), (Finset.mem_erase.mpr ⟨fun e => absurd (Proc.devRef_injective _ e) (show (cc0_scratch6 : Ref sig .scVector) ≠ cc0_scratch0 by decide), (SparseCore.Cfg.mem_ownRefs_of_owner (p := Proc.scVector (cV L) (jV L)) (b := ((Proc.scVector (cV L) (jV L)).devRef cc0_scratch6)) rfl)⟩)⟩)⟩)⟩)⟩)⟩)]

end Own

variable [FloatOps F] [Named F]

section Tile

variable (d : Dev nD) (L : grid0.Coords) (zv : Buf (Elt F) (zLoc d)) (vl : Buf (Elt F) (velLoc d)) (dp : Buf (Elt F) (depLoc d))

/-- What the kernel may leave at a position of the result. -/
def GoodAt (p : S8388608.Idx) (v : F .f32) : Prop := ∃ f, TabOK vl dp f ∧ v = tabAt f (ixw (zv p))

/-- A task has no chunk past its sixteenth. -/
theorem seg_top (w a : ℕ) : seg w a 16 = seg w a 32 := by
  ext p
  have h := lt_size p
  rw [mem_seg, mem_seg]
  omega

/-- So the run of depth chunks up to the sixteenth is the whole. -/
theorem zrun_top (a : ℕ) : (ZRun d L zv a 16 : sProp 𝕄) ⊢ ZRun d L zv a 32 := by
  unfold ZRun
  rw [seg_top]

/-- After the last trip a depth buffer and its semaphore are free. -/
theorem in_after (b : Memref sig .scVector .vmem S16384 .f32) (s : DmaSem sig) (r : ℕ) :
    InSt d L zv b s r 8 ⊢ (iprop((∃ f, b.view.loc (thr d L) ↦{fullShare} f) ∗ semVal (thr d L, .dma s) 0) : sProp 𝕄) := by
  unfold InSt
  rw [if_neg (show ¬ 8 < 8 by decide)]

/-- Past the last chunk nothing is left to write. -/
theorem free_done (Good : S8388608.Idx → F .f32 → Prop) (a : ℕ) (ha : 16 ≤ a) : (Free d L a 32 : sProp 𝕄) ⊢ Done d L Good a 32 := by
  unfold Free Done
  iintro ⟨%g, H⟩
  iexists g; isplitr
  · ipureintro
    intro p hp
    have h1 := (mem_seg.mp hp)
    have h2 := lt_size p
    omega
  · iexact H

/-- One tile's whole task: its chunks of the result end with the table's entries for their depths. -/
theorem tile_body (hF : (K (F := F)).Facts) (qv qd : PosShare TreeShare) (hix : ∀ p, (ixw (zv p)).toNat < 80)
    (O : CellTallies nD τ sig (HIx 1)) (W : Waits sig (HIx 1)) (hO : ∀ g, O g none = 0) :
    iprop(levAts (K (F := F)).L (K (F := F)).lev ∗ emp
        ∗ (ZRun d L zv 0 32 ∗ (velLoc d ↦{qv} vl) ∗ (depLoc d ↦{qd} dp) ∗ Free d L 0 32)
        ∗ scopedBufs (thr d L) ∗ scopedSems0 (thr d L) ∗ owes (thr d L) O W)
      ⊢ wp (M := 𝕄) frame (wpE (defs₀ (F := F)) 𝒱₀ (thr d L) none) Set.univ
          (cc0__sc_bucketize L zM (Memref.isWhole_whole _) velM (Memref.isWhole_whole _) depM (Memref.isWhole_whole _) oM (Memref.isWhole_whole _)
            zb0 (Memref.isWhole_whole _) zb1 (Memref.isWhole_whole _) ob0 (Memref.isWhole_whole _) ob1 (Memref.isWhole_whole _)
            velS (Memref.isWhole_whole _) depS (Memref.isWhole_whole _) tabS (Memref.isWhole_whole _)
            cc0_scratch7 cc0_scratch8 cc0_scratch9 cc0_scratch10 cc0_scoped0 cc0_scoped1)
          fun _ => iprop((ZRun d L zv 0 32 ∗ (velLoc d ↦{qv} vl) ∗ (depLoc d ↦{qd} dp) ∗ Done d L (GoodAt d zv vl dp) 0 32)
            ∗ scopedBufs (thr d L) ∗ scopedSems0 (thr d L) ∗ ∃ W', ⌜∀ p ∈ W', p ∈ W ∨ p.2 = none⌝ ∗ owes (thr d L) O W') := by
  simp only [cc0__sc_bucketize_eq_skeleton]; unfold cc0__sc_bucketize_skel
  simp only [k0_part2_eq_skeleton, k0_part3_eq_skeleton, k0_part4_eq_skeleton, k0_part5_eq_skeleton, k0_part6_eq_skeleton, k0_part7_eq_skeleton,
    k0_part8_eq_skeleton, k0_part9_eq_skeleton, k0_part10_eq_skeleton, k0_part11_eq_skeleton, k0_part12_eq_skeleton]
  unfold k0_part2_skel k0_part3_skel k0_part4_skel k0_part5_skel k0_part6_skel k0_part7_skel k0_part8_skel k0_part9_skel k0_part10_skel k0_part11_skel k0_part12_skel
  simp only [Prog.lift, Prog.bind_op, Prog.bind_ret, Prog.pure_eq_ret]
  rw [(K (F := F)).scopedBufs_V hF d (cV L) (jV L), SparseCore.Cfg.scopedSems0_V (Val := Elt F) d (cV L) (jV L), ownSems0_tile, ownBufs_tile]
  iintro ⟨#Hlv, -, ⟨Hz, Hv, Hd, Hf⟩, ⟨Hz0, Hz1, Ho0, Ho1, ⟨%g4, Hvs⟩, ⟨%g5, Hds⟩, ⟨%g6, Ht⟩, Hbufs⟩, ⟨Hs7, Hs8, Hs9, Hs10, Hc0, Hc1, Hsems⟩, HO⟩
  ihave Hmw := ((K (F := F)).mayWaits_none (thr := thr d L) hO) $$ Hlv
  icases Hmw with #Hmw
  ihave HO : OweSt d L O W $$ [HO]
  · unfold OweSt
    iexists W; isplitr
    · ipureintro; exact fun p hp => .inl hp
    · iexact HO
  iapply (copy10 d L O W velM (View.set_whole _) velS cc0_scoped0.sem qv vl g4) $$ [Hv Hvs Hc0 HO]
  · isplitr; · iexact Hmw
    isplitl [Hv]; · iexact Hv
    isplitl [Hvs]; · iexact Hvs
    isplitl [Hc0] <;> iassumption
  iintro ⟨Hv, ⟨%f10, %h10, Hvs⟩, Hc0, HO⟩
  iapply (copy10 d L O W depM (View.set_whole _) depS cc0_scoped1.sem qd dp g5) $$ [Hd Hds Hc1 HO]
  · isplitr; · iexact Hmw
    isplitl [Hd]; · iexact Hd
    isplitl [Hds]; · iexact Hds
    isplitl [Hc1] <;> iassumption
  iintro ⟨Hd, ⟨%f11, %h11, Hds⟩, Hc1, HO⟩
  iapply (wp_load 𝒱₀ (thr d L) none Set.univ (m := velS) (S := Finset.univ) (Finset.subset_univ _)) $$ Hvs; iintro Hvs
  iapply (wp_load 𝒱₀ (thr d L) none Set.univ (m := depS) (S := Finset.univ) (Finset.subset_univ _)) $$ Hds; iintro Hds
  generalize hv2 : velS.view.readAt (Elt F) (Rect.unit (s := S16) ![0] S16.size inb_S16_S16_0).toLoadRect f10 = v2 at h10 ⊢
  generalize hv3 : depS.view.readAt (Elt F) (Rect.unit (s := S16) ![0] S16.size inb_S16_S16_0).toLoadRect f11 = v3 at h11 ⊢
  iapply (wp_load 𝒱₀ (thr d L) none Set.univ (m := tabS) (S := Finset.univ) (Finset.subset_univ _)) $$ Ht; iintro Ht
  iapply (wp_store 𝒱₀ (thr d L) none Set.univ (m := tabS) (r := Rect.unit (s := S80) ![0] S16.size inb_S80_S16_0) (Mk := Finset.univ) (S := Finset.univ) (Finset.subset_univ _)) $$ Ht; iintro Ht
  iapply (wp_load 𝒱₀ (thr d L) none Set.univ (m := tabS) (S := Finset.univ) (Finset.subset_univ _)) $$ Ht; iintro Ht
  iapply (wp_store 𝒱₀ (thr d L) none Set.univ (m := tabS) (r := Rect.unit (s := S80) ![16] S16.size inb_S80_S16_16) (Mk := Finset.univ) (S := Finset.univ) (Finset.subset_univ _)) $$ Ht; iintro Ht
  iapply (wp_load 𝒱₀ (thr d L) none Set.univ (m := tabS) (S := Finset.univ) (Finset.subset_univ _)) $$ Ht; iintro Ht
  iapply (wp_store 𝒱₀ (thr d L) none Set.univ (m := tabS) (r := Rect.unit (s := S80) ![32] S16.size inb_S80_S16_32) (Mk := Finset.univ) (S := Finset.univ) (Finset.subset_univ _)) $$ Ht; iintro Ht
  iapply (wp_load 𝒱₀ (thr d L) none Set.univ (m := tabS) (S := Finset.univ) (Finset.subset_univ _)) $$ Ht; iintro Ht
  iapply (wp_store 𝒱₀ (thr d L) none Set.univ (m := tabS) (r := Rect.unit (s := S80) ![48] S16.size inb_S80_S16_48) (Mk := Finset.univ) (S := Finset.univ) (Finset.subset_univ _)) $$ Ht; iintro Ht
  iapply (wp_load 𝒱₀ (thr d L) none Set.univ (m := tabS) (S := Finset.univ) (Finset.subset_univ _)) $$ Ht; iintro Ht
  iapply (wp_store 𝒱₀ (thr d L) none Set.univ (m := tabS) (r := Rect.unit (s := S80) ![64] S16.size inb_S80_S16_64) (Mk := Finset.univ) (S := Finset.univ) (Finset.subset_univ _)) $$ Ht; iintro Ht
  ihave Ht' : iprop(∃ f12, ⌜tabS.view.read (Elt F) f12 = tabOf v2 v3⌝ ∗ (tabS.view.loc (thr d L) ↦{fullShare} f12)) $$ [Ht]
  · iexists _; isplitr
    rotate_left
    · iexact Ht
    · ipureintro
      exact stores_read g6 v2 v3
  icases Ht' with ⟨%f12, %h12, Ht⟩
  have hG : ∀ p, GoodAt d zv vl dp p (tabAt (tabS.view.read (Elt F) f12) (ixw (zv p))) := fun p =>
    ⟨_, ⟨v2, v3, h10, h11, h12⟩, rfl⟩
  ihave Hz' := (zrun_split d L zv (a := 0) (b := 1) (c := 32) (by omega) (by omega)).1 $$ Hz
  icases Hz' with ⟨Hzc0, Hz⟩
  ihave Hz' := (zrun_split d L zv (a := 1) (b := 2) (c := 32) (by omega) (by omega)).1 $$ Hz
  icases Hz' with ⟨Hzc1, Hz⟩
  icases Hz0 with ⟨%e0, Hz0⟩
  icases Hz1 with ⟨%e1, Hz1⟩
  unfold ZRun
  iapply (start_in d L zv zb0 (View.set_whole _) cc0_scratch7.sem (k0_off1 L 0#32) (k0_off1_inb L 0) 0
    (by rw [show k0_off1 L 0#32 = _ from k0_off1_eq L 0]; simp [wid]; omega) e0) $$ [Hzc0 Hz0 Hs7]
  · isplitl [Hzc0]; · iexact Hzc0
    isplitl [Hz0]; · iexact Hz0
    iexact Hs7
  iintro Hi0
  iapply (start_in d L zv zb1 (View.set_whole _) cc0_scratch8.sem (k0_off1 L 32#32) (k0_off1_inb L 1) 1
    (by rw [show k0_off1 L 32#32 = _ from k0_off1_eq L 1]; simp [wid]; omega) e1) $$ [Hzc1 Hz1 Hs8]
  · isplitl [Hzc1]; · iexact Hzc1
    isplitl [Hz1]; · iexact Hz1
    iexact Hs8
  iintro Hi1
  rw [wp_bind, wp_bind]
  iapply (wp_then d L (Q := fun _ => outerInv d L zv (GoodAt d zv vl dp) f12 O W 8 0#32))
  isplitl [Hi0 Hi1 Ho0 Ho1 Hs9 Hs10 Hz Hf Ht HO]
  · iapply (outer_loop d L zv (GoodAt d zv vl dp) f12 O W _ v2 v3 _ _ _ _ hix hG)
    unfold outerInv InSt OutSt ZRun
    rw [if_pos (show 0 < 8 by decide), if_pos (show 0 < 8 by decide), if_pos rfl, if_pos rfl]
    isplitr; · iexact Hmw
    isplitl [Hi0]; · iexact Hi0
    isplitl [Hi1]; · iexact Hi1
    isplitl [Ho0 Hs9]; · isplitl [Ho0] <;> iassumption
    isplitl [Ho1 Hs10]; · isplitl [Ho1] <;> iassumption
    isplitr
    · rw [show 2 * 0 = 0 from rfl, seg_self, pointsTo_empty]; iempintro
    isplitl [Hz]; · iexact Hz
    isplitr
    · iapply (done_empty d L zv (GoodAt d zv vl dp) 0); iempintro
    isplitl [Hf]; · iexact Hf
    isplitl [Ht] <;> iassumption
  iintro %_ HI
  unfold outerInv
  icases HI with ⟨-, Hi0, Hi1, Ho0, Ho1, Hz, -, HD, Hf, Ht, HO⟩
  rw [wp_ret]; imodintro
  iapply (wait_out d L (GoodAt d zv vl dp) O W ob0 cc0_scratch9.sem 0 8 (by decide) (k0_off1 L 0#32) (k0_off1_inb L 0)) $$ [Ho0 HO]
  · isplitr; · iexact Hmw
    isplitl [Ho0] <;> iassumption
  unfold OutFree
  iintro ⟨Ho0, Hs9, HD0, HO⟩
  iapply (wait_out d L (GoodAt d zv vl dp) O W ob1 cc0_scratch10.sem 1 8 (by decide) (k0_off1 L 0#32) (k0_off1_inb L 0)) $$ [Ho1 HO]
  · isplitr; · iexact Hmw
    isplitl [Ho1] <;> iassumption
  unfold OutFree
  iintro ⟨Ho1, Hs10, HD1, HO⟩
  rw [wp_ret]; imodintro
  ihave Hi0' := (in_after d L zv zb0 cc0_scratch7.sem 0) $$ Hi0
  icases Hi0' with ⟨Hz0, Hs7⟩
  ihave Hi1' := (in_after d L zv zb1 cc0_scratch8.sem 1) $$ Hi1
  icases Hi1' with ⟨Hz1, Hs8⟩
  have hz : (ZRun d L zv 0 16 : sProp 𝕄) ⊢ iprop(zLoc d ↦[seg (wid L) 0 32]{fullShare} zv) := zrun_top d L zv 0
  ihave HDa := (done_all d L (GoodAt d zv vl dp) 8) $$ [HD HD0 HD1]
  · isplitl [HD]; · iexact HD
    isplitl [HD0] <;> iassumption
  ihave HDf := (free_done d L (GoodAt d zv vl dp) 16 (by omega)) $$ Hf
  isplitl [Hz Hv Hd HDa HDf]
  · isplitl [Hz]
    · iapply hz; iexact Hz
    isplitl [Hv]; · iexact Hv
    isplitl [Hd]; · iexact Hd
    iapply (done_join d L (GoodAt d zv vl dp) (a := 0) (b := 16) (c := 32) (by omega) (by omega))
    isplitl [HDa] <;> iassumption
  isplitl [Hz0 Hz1 Ho0 Ho1 Hvs Hds Ht Hbufs]
  · isplitl [Hz0]; · iexact Hz0
    isplitl [Hz1]; · iexact Hz1
    isplitl [Ho0]; · iexact Ho0
    isplitl [Ho1]; · iexact Ho1
    isplitl [Hvs]; · iexists _; iexact Hvs
    isplitl [Hds]; · iexists _; iexact Hds
    isplitl [Ht]; · iexists _; iexact Ht
    iexact Hbufs
  isplitr [HO]
  · isplitl [Hs7]; · iexact Hs7
    isplitl [Hs8]; · iexact Hs8
    isplitl [Hs9]; · iexact Hs9
    isplitl [Hs10]; · iexact Hs10
    isplitl [Hc0]; · iexact Hc0
    isplitl [Hc1] <;> iassumption
  unfold OweSt
  iexact HO

end Tile

end Cert.Proof.KI
-- ==== Proof.IdealRun.lean ====
/-
  The launch. The TensorCore takes the third column of the points, hands the 32 tasks their chunks of it and of the
  result, with a share each of the two small tables, and takes the chunks back filled. What a run of the whole program
  leaves: the arguments as they were, each result entry read off a table built of `vel` and `depth`, every semaphore at
  zero.
-/
module

public import proofs.«01_k».proof.Proof.IdealTile
public import Idealize.ShloMosaic.Lib.SparseCore.Quiescent
public import Idealize.ShloMosaic.Lib.StableHlo.Run

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)
open Cert.Proof.Chunks

variable {F : FTy → Type}

local notation "𝕄" => MT nD τ sig (HIx 1) (Elt F) ℕ UU ℕ

variable [FloatOps F] [Named F]

abbrev D : Defs nD τ sig (Elt F) (ΛP (F := F)) := Pipeline.defs pcfgs defs₀
abbrev 𝒱 : Variants := 𝒱₀.lift
abbrev v₀ : 𝒱.V := Sum.inl none
abbrev EH : Emb UH 𝕄 := embL

/-- The launch's side conditions. -/
theorem facts : (K (F := F)).Facts where
  start_ne_taskDone := by show sc_start ≠ sc_taskDone; decide
  start_unscoped := by show (SemLoc.reg sc_start : SemLoc sig).isScoped .scScalar = false; decide
  taskDone_unscoped := by show (SemLoc.reg sc_taskDone : SemLoc sig).isScoped .scScalar = false; decide
  go_unscoped := by show (SemLoc.reg sc_go : SemLoc sig).isScoped .scVector = false; decide
  done_unscoped := by show (SemLoc.reg sc_done : SemLoc sig).isScoped .tc = false; decide
  noTaskShared := by
    show ∀ (b : DevRef τ sig) (c : Fin τ.nSC), b.owner = .sc c → sig.taskShared b.table b.idx = false
    decide
  noSeq := fun _ => rfl

section Launch

variable (m : (ℓ : Loc nD τ sig) → Buf (Elt F) ℓ) (ρ : Dev nD → PrngReg)

/-! ## The depth column -/

abbrev opS : HloOp τ sig (Elt F) :=
  StableHlo.unary main_arg0 main_v0 ((extractStridedSlice S8388608x1 ![0, 2] · slices_S8388608x3_S8388608x1_0_2) : (S8388608x3.Idx → F .f32) → S8388608x1.Idx → F .f32)
abbrev opR : HloOp τ sig (Elt F) := StableHlo.reshape main_v0 main_v1 (rfl : (.f32 : EltTy) = .f32) shapeCasts_S8388608x1_S8388608

/-- The third column of an array of points. -/
def col (a : S8388608x3.Idx → F .f32) : S8388608.Idx → F .f32 :=
  shapeCast S8388608 (extractStridedSlice S8388608x1 ![0, 2] a slices_S8388608x3_S8388608x1_0_2) shapeCasts_S8388608x1_S8388608

abbrev zval (d : Dev nD) : Buf (Elt F) (zLoc d) := col (m (aLoc d))

/-- Every depth's row number is a row of the table. -/
def PreOK : Prop := ∀ (d : Dev nD) (p : S8388608.Idx), (ixw (zval m d p)).toNat < 80

abbrev aR : DevRef τ sig := Proc.devRef .tc (main_arg0 : Ref sig .tc)
abbrev velR : DevRef τ sig := Proc.devRef .tc (main_arg1 : Ref sig .tc)
abbrev depR : DevRef τ sig := Proc.devRef .tc (main_arg2 : Ref sig .tc)
abbrev sR : DevRef τ sig := Proc.devRef .tc (main_v0 : Ref sig .tc)
abbrev zR : DevRef τ sig := Proc.devRef .tc (main_v1 : Ref sig .tc)
abbrev oR : DevRef τ sig := Proc.devRef .tc (main_v2 : Ref sig .tc)
abbrev SA : Finset (DevRef τ sig) := {aR, velR, depR, sR, zR, oR}

/-- The TensorCore's arrays, one by one. -/
theorem held_SA (d : Dev nD) (W : Valuation τ sig (Elt F)) :
    (held (T d) SA W : sProp 𝕄)
      = iprop((aLoc d ↦{fullShare} W aR) ∗ (velLoc d ↦{fullShare} W velR) ∗ (depLoc d ↦{fullShare} W depR)
          ∗ ((SparseCore.T d).loc main_v0 ↦{fullShare} W sR) ∗ (zLoc d ↦{fullShare} W zR) ∗ oLoc d ↦{fullShare} W oR) := by
  unfold held SA
  rw [SparseCore.bigSep_insert' (by decide), SparseCore.bigSep_insert' (by decide), SparseCore.bigSep_insert' (by decide),
    SparseCore.bigSep_insert' (by decide), SparseCore.bigSep_insert' (by decide), bigSep_singleton]

/-- The contents at the start. -/
def VI (d : Dev nD) : Valuation τ sig (Elt F) := fun b => m (d, b)

/-- The arrays at the start, as one holding. -/
theorem unscoped_held (d : Dev nD) : (unscopedBufs d (fun b => m ((SparseCore.T d).loc b)) : sProp 𝕄) = held (T d) SA (VI m d) := by
  rw [held_SA]
  unfold unscopedBufs
  rw [show (Finset.univ.filter fun b : Ref sig .tc => ¬ b.isScoped) = {main_arg0, main_arg1, main_arg2, main_v0, main_v1, main_v2} by decide,
    SparseCore.bigSep_insert' (by decide), SparseCore.bigSep_insert' (by decide), SparseCore.bigSep_insert' (by decide),
    SparseCore.bigSep_insert' (by decide), SparseCore.bigSep_insert' (by decide), bigSep_singleton]
  rfl

abbrev VZ (d : Dev nD) : Valuation τ sig (Elt F) := (opR (F := F)).result ((opS (F := F)).result (VI m d))

/-- Taking the depth column changes no other array. -/
theorem VZ_other (d : Dev nD) {b : DevRef τ sig} (hz : b ∉ ({zR} : Finset (DevRef τ sig))) (hs : b ∉ ({sR} : Finset (DevRef τ sig))) :
    VZ m d b = m (d, b) :=
  ((opR (F := F)).result_of_not_mem _ hz).trans ((opS (F := F)).result_of_not_mem _ hs)

/-- It leaves the third column of the points. -/
theorem VZ_z (d : Dev nD) : VZ m d zR = zval m d :=
  (StableHlo.reshape_result _ _ _ _ _ _ _).trans (congrArg (fun x => shapeCast S8388608 x shapeCasts_S8388608x1_S8388608) (StableHlo.unary_result _ _ _ _ _ _))

/-- The arrays before the launch, one by one. -/
theorem held_VZ (d : Dev nD) :
    (held (T d) SA (VZ m d) : sProp 𝕄)
      = iprop((aLoc d ↦{fullShare} m (aLoc d)) ∗ (velLoc d ↦{fullShare} m (velLoc d)) ∗ (depLoc d ↦{fullShare} m (depLoc d))
          ∗ ((SparseCore.T d).loc main_v0 ↦{fullShare} VZ m d sR) ∗ (zLoc d ↦{fullShare} zval m d) ∗ oLoc d ↦{fullShare} m (oLoc d)) := by
  rw [held_SA, VZ_z, VZ_other m d (b := aR) (by decide) (by decide), VZ_other m d (b := velR) (by decide) (by decide),
    VZ_other m d (b := depR) (by decide) (by decide), VZ_other m d (b := oR) (by decide) (by decide)]

/-! ## What each task is handed, and hands back -/

abbrev shr (w : Fin 32) : PosShare TreeShare := Transfers.dealOf fullShare Finset.univ w

abbrev Good (d : Dev nD) : S8388608.Idx → F .f32 → Prop := GoodAt d (zval m d) (m (velLoc d)) (m (depLoc d))

/-- What task `w` is handed: its chunks of the depths and of the result, and a share of each small table. -/
def goW (d : Dev nD) (w : Fin 32) : sProp 𝕄 :=
  iprop((zLoc d ↦[seg w.val 0 32]{fullShare} zval m d) ∗ (velLoc d ↦{shr w} m (velLoc d)) ∗ (depLoc d ↦{shr w} m (depLoc d))
    ∗ ∃ g, oLoc d ↦[seg w.val 0 32]{fullShare} g)

/-- What task `w` hands back: the same, with good values in its chunks of the result. -/
def tdW (d : Dev nD) (w : Fin 32) : sProp 𝕄 :=
  iprop((zLoc d ↦[seg w.val 0 32]{fullShare} zval m d) ∗ (velLoc d ↦{shr w} m (velLoc d)) ∗ (depLoc d ↦{shr w} m (depLoc d))
    ∗ ∃ g, ⌜∀ p ∈ seg w.val 0 32, Good m d p (g p)⌝ ∗ oLoc d ↦[seg w.val 0 32]{fullShare} g)

/-- Tile `i` of SparseCore `c` has task number `2 i + c`. -/
def tsk (c : Fin 2) (i : Fin 16) : Fin 32 := ⟨2 * i.val + c.val, by omega⟩

/-- Going through the tasks is going through the SparseCores and their tiles. -/
theorem bigSep_tsk (Φ : Fin 32 → sProp 𝕄) :
    bigSep Finset.univ Φ = bigSep Finset.univ fun c : Fin 2 => bigSep Finset.univ fun i : Fin 16 => Φ (tsk c i) := by
  rw [← bigSep_univ_prod (fun x : Fin 2 × Fin 16 => Φ (tsk x.1 x.2)),
    show (Finset.univ : Finset (Fin 32)) = Finset.univ.image (fun x : Fin 2 × Fin 16 => tsk x.1 x.2) by decide]
  exact SparseCore.bigSep_image_of_injOn (fun x _ y _ h => by
    have h' : 2 * x.2.val + x.1.val = 2 * y.2.val + y.1.val := congrArg Fin.val h
    exact Prod.ext (Fin.ext (by omega)) (Fin.ext (by omega))) Φ

instance goW_storable (d : Dev nD) (w : Fin 32) : BI.Storable (upEmb : UEmb _ 𝕄) (goW m d w) := by unfold goW; infer_instance
instance tdW_storable (d : Dev nD) (w : Fin 32) : BI.Storable (upEmb : UEmb _ 𝕄) (tdW m d w) := by unfold tdW; infer_instance

/-- What the launch's handshakes carry. -/
def P : (K (F := F)).Pay (nD := nD) (Val := Elt F) (Name := ℕ) (U := UU) where
  st := fun q d c => match q with
    | 0 => bigSep Finset.univ fun i : Fin 16 => goW m d (tsk c i)
  dn := fun q d c => match q with
    | 0 => bigSep Finset.univ fun i : Fin 16 => tdW m d (tsk c i)
  go := fun q d c i => match q with
    | 0 => goW m d (tsk c i)
  td := fun q d c i => match q with
    | 0 => tdW m d (tsk c i)
  x := fun _ _ => iprop(emp)

instance P_storable : (P (F := F) m).IsStorable where
  st q d c := match q with
    | 0 => (inferInstance : BI.Storable (upEmb : UEmb _ 𝕄) (bigSep Finset.univ fun i : Fin 16 => goW m d (tsk c i)))
  dn q d c := match q with
    | 0 => (inferInstance : BI.Storable (upEmb : UEmb _ 𝕄) (bigSep Finset.univ fun i : Fin 16 => tdW m d (tsk c i)))
  go q d c i := match q with
    | 0 => goW_storable m d (tsk c i)
  td q d c i := match q with
    | 0 => tdW_storable m d (tsk c i)

/-! ## The tasks -/

/-- A tile's grid coordinates. -/
def tileAt (c : Fin (grid0.bound 0)) (s : Fin (grid0.bound 1)) : grid0.Coords :=
  fun | 0 => c | 1 => s | ⟨_ + 2, h⟩ => absurd h (Nat.not_lt.2 (Nat.le_add_left _ _))

/-- A tile's program is the kernel's body at its coordinates. -/
theorem task_prog (c : Fin τ.nSC) (s : Fin τ.nSub) :
    defs₀ (F := F) (.scVector c s) 0 ()
      = SparseCore.onTile hcore0 hsub0 (fun c s => cc0__sc_bucketize (tileAt c s) zM (Memref.isWhole_whole _) velM (Memref.isWhole_whole _)
          depM (Memref.isWhole_whole _) oM (Memref.isWhole_whole _) zb0 (Memref.isWhole_whole _) zb1 (Memref.isWhole_whole _)
          ob0 (Memref.isWhole_whole _) ob1 (Memref.isWhole_whole _) velS (Memref.isWhole_whole _) depS (Memref.isWhole_whole _)
          tabS (Memref.isWhole_whole _) cc0_scratch7 cc0_scratch8 cc0_scratch9 cc0_scratch10 cc0_scoped0 cc0_scoped1) ⟨⟩ c s := rfl

/-- What a task adds to its waits are waits of its own: a weaker account than the launch asks. -/
theorem more_waits {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  refine sep_mono_right (sep_mono_right (sep_mono_right ?_))
  iintro ⟨%W', %hW, HO⟩
  iexists W'; isplitr
  · ipureintro; intro p hp; rcases hW p hp with h | h
    · exact .inl h
    · exact .inr (.inl h)
  · iexact HO

/-- Each tile does its task. -/
theorem task (hok : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [task_prog]; simp only [SparseCore.onTile, hc, and_self, ↓reduceDIte]
  exact (tile_body d (tileAt ⟨_, hc.1⟩ ⟨_, hc.2⟩) (zval m d) (m (velLoc d)) (m (depLoc d)) facts (shr (tsk c i)) (shr (tsk c i)) (hok d) O W hO).trans
    (wp_mono frame _ _ fun _ => more_waits)

/-- A SparseCore's share is its tiles' shares. -/
theorem split : (K (F := F)).VecSplit' (P m) 0 := by
  intro d c
  show (bigSep Finset.univ fun i : Fin 16 => goW m d (tsk c i)) ⊢ |={Set.univ}=>
    iprop((bigSep Finset.univ fun i : Fin 16 => goW m d (tsk c i))
      ∗ ((bigSep Finset.univ fun i : Fin 16 => tdW m d (tsk c i)) -∗ bigSep Finset.univ fun i : Fin 16 => tdW m d (tsk c i)))
  iintro H; imodintro
  isplitl [H]; · iexact H
  iintro H; iexact H

/-! ## The whole arrays and the tasks' parts of them -/

/-- The whole arrays are dealt out to the 32 tasks. -/
theorem deal (d : Dev nD) (g : Buf (Elt F) (oLoc d)) :
    iprop((zLoc d ↦{fullShare} zval m d) ∗ (velLoc d ↦{fullShare} m (velLoc d)) ∗ (depLoc d ↦{fullShare} m (depLoc d)) ∗ oLoc d ↦{fullShare} g)
      ⊢ bigSep Finset.univ (goW (F := F) m d) := by
  have hz : (zLoc d ↦{fullShare} zval m d : sProp 𝕄) = bigSep Finset.univ fun w : Fin 32 => zLoc d ↦[seg w.val 0 32]{fullShare} zval m d := by
    rw [← pointsTo_biUnion Finset.univ (ℓ := zLoc d) (fun w : Fin 32 => seg w.val 0 32) seg_apart, seg_cover]
  have ho : (oLoc d ↦{fullShare} g : sProp 𝕄) = bigSep Finset.univ fun w : Fin 32 => oLoc d ↦[seg w.val 0 32]{fullShare} g := by
    rw [← pointsTo_biUnion Finset.univ (ℓ := oLoc d) (fun w : Fin 32 => seg w.val 0 32) seg_apart, seg_cover]
  rw [hz, ho, Transfers.pointsTo_deal (ℓ := velLoc d) (Finset.univ : Finset (Fin 32)) Finset.univ_nonempty fullShare,
    Transfers.pointsTo_deal (ℓ := depLoc d) (Finset.univ : Finset (Fin 32)) Finset.univ_nonempty fullShare,
    ← bigSep_sep', ← bigSep_sep', ← bigSep_sep']
  have one : ∀ w : Fin 32, iprop((zLoc d ↦[seg w.val 0 32]{fullShare} zval m d) ∗ (velLoc d ↦{shr w} m (velLoc d)) ∗ (depLoc d ↦{shr w} m (depLoc d))
      ∗ oLoc d ↦[seg w.val 0 32]{fullShare} g) ⊢ goW m d w := fun w => by
    unfold goW
    iintro ⟨Hz, Hv, Hd, Ho⟩
    isplitl [Hz]; · iexact Hz
    isplitl [Hv]; · iexact Hv
    isplitl [Hd]; · iexact Hd
    iexists g; iexact Ho
  exact bigSep_mono fun w _ => one w

/-- The tasks' shares come together to the whole arrays, every result entry good. -/
theorem collect (d : Dev nD) :
    bigSep Finset.univ (tdW (F := F) m d)
      ⊢ iprop((velLoc d ↦{fullShare} m (velLoc d)) ∗ (depLoc d ↦{fullShare} m (depLoc d))
          ∗ ∃ g, ⌜∀ p, Good m d p (g p)⌝ ∗ oLoc d ↦{fullShare} g) := by
  rw [Transfers.pointsTo_deal (ℓ := velLoc d) (Finset.univ : Finset (Fin 32)) Finset.univ_nonempty fullShare,
    Transfers.pointsTo_deal (ℓ := depLoc d) (Finset.univ : Finset (Fin 32)) Finset.univ_nonempty fullShare]
  unfold tdW
  rw [bigSep_sep', bigSep_sep', bigSep_sep']
  haveI : Nonempty (Buf (Elt F) (oLoc d)) := ⟨m (oLoc d)⟩
  iintro ⟨-, Hv, Hd, Ho⟩
  isplitl [Hv]; · iexact Hv
  isplitl [Hd]; · iexact Hd
  ihave Ho := (bigSep_exists_pi Finset.univ (fun (w : Fin 32) (g : Buf (Elt F) (oLoc d)) =>
    (iprop(⌜∀ p ∈ seg w.val 0 32, Good m d p (g p)⌝ ∗ oLoc d ↦[seg w.val 0 32]{fullShare} g) : sProp 𝕄))) $$ Ho
  icases Ho with ⟨%gs, Ho⟩
  ihave Ho := (bigSep_pure_sep Finset.univ (fun w : Fin 32 => ∀ p ∈ seg w.val 0 32, Good m d p (gs w p)) _) $$ Ho
  icases Ho with ⟨%hgs, Ho⟩
  ihave Ho := (pointsTo_biUnion_join (ℓ := oLoc d) Finset.univ (fun w : Fin 32 => seg w.val 0 32) gs (m (oLoc d)) seg_apart) $$ Ho
  icases Ho with ⟨%g, %hg, Ho⟩
  iexists g; isplitr
  · ipureintro; intro p
    obtain ⟨w, -, hp⟩ := Finset.mem_biUnion.mp ((Finset.ext_iff.mp seg_cover p).mpr (Finset.mem_univ p))
    rw [hg w (Finset.mem_univ _) p hp]
    exact hgs w (Finset.mem_univ _) p hp
  · ihave Ho' := (Entails.of_eq (by rw [seg_cover] : (oLoc d ↦[(Finset.univ : Finset (Fin 32)).biUnion fun w => seg w.val 0 32]{fullShare} g : sProp 𝕄) = oLoc d ↦{fullShare} g)) $$ Ho
    iexact Ho'

/-- What both SparseCores are handed is what the tasks are handed. -/
theorem st_all (d : Dev nD) : (bigSep Finset.univ fun c : Fin ((K (F := F)).nCore 0) => (P m).st 0 d c) = bigSep Finset.univ (goW (F := F) m d) :=
  (bigSep_tsk (goW m d)).symm
/-- What both hand back is what the tasks hand back. -/
theorem dn_all (d : Dev nD) : (bigSep Finset.univ fun c : Fin ((K (F := F)).nCore 0) => (P m).dn 0 d c) = bigSep Finset.univ (tdW (F := F) m d) :=
  (bigSep_tsk (tdW m d)).symm

/-! ## The TensorCore's program -/

/-- The counters at launch. -/
def u₀ : UU := (initOf (K (F := F)).hsCells (K (F := F)).hsToks, 1)

/-- They are set up from nothing else. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have none_at : ∀ {I : Type} (s : Finset I), (bigSep s fun _ => iprop(emp)) = (iprop(emp) : sProp 𝕄) := fun s => bigSep_emp_const s
  show _ ⊢ |={Set.univ}=> iprop(_ ∗ _ ∗ bigSep Finset.univ fun _ : Thread nD τ => bigSep Finset.univ fun _ : Fin 1 => (iprop(emp) : sProp 𝕄))
  rw [bigSep_congr (Ψ := fun _ : Thread nD τ => (iprop(emp) : sProp 𝕄)) fun _ _ => none_at _, none_at, none_at]
  unfold u₀
  iintro Hu
  ihave H := (ownU_pair _ _) $$ Hu
  icases H with ⟨HH, -⟩
  imodintro
  isplitl [HH]; · iexact HH
  isplitr <;> iempintro

/-- What is kept of device `d`'s arrays at the end. -/
def FIN (d : Dev nD) : sProp 𝕄 :=
  iprop((aLoc d ↦{fullShare} m (aLoc d)) ∗ (velLoc d ↦{fullShare} m (velLoc d)) ∗ (depLoc d ↦{fullShare} m (depLoc d))
    ∗ ∃ g, ⌜∀ p, Good m d p (g p)⌝ ∗ oLoc d ↦{fullShare} g)

/-- The slice touches only the arrays at hand. -/
theorem hS : (opS (F := F)).bufs ⊆ SA := show ({aR, sR} : Finset (DevRef τ sig)) ⊆ SA by decide
/-- So does the reshape. -/
theorem hR : (opR (F := F)).bufs ⊆ SA := show ({sR, zR} : Finset (DevRef τ sig)) ⊆ SA by decide

/-- The TensorCore's program: the depth column, the launch, and the arrays at the end. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd FIN
  rw [unscoped_held]
  simp only [main, wp_bind, wp_pure]
  iintro ⟨#Hctx, Hst, ⟨Hb, Hheld, Hts, -⟩, -⟩
  iapply (wp_hlo_within 𝒱 (SparseCore.T d) none Set.univ (op := opS) (S := SA) hS (V := VI m d)) $$ [Hb Hheld]
  · isplitl [Hb] <;> iassumption
  iintro ⟨Hb, Hheld⟩
  rw [wp_ret]; imodintro
  iapply (wp_hlo_within 𝒱 (SparseCore.T d) none Set.univ (op := opR) (S := SA) hR (V := (opS (F := F)).result (VI m d))) $$ [Hb Hheld]
  · isplitl [Hb] <;> iassumption
  iintro ⟨Hb, Hheld⟩
  rw [wp_ret]; imodintro
  ihave Hh := (Entails.of_eq (held_VZ (F := F) m d)) $$ Hheld
  icases Hh with ⟨Ha, Hv, Hd, -, Hz, Ho⟩
  iapply ((K (F := F)).wp_run (D (F := F)) 𝒱 (EH := EH) (P := P m) κ d 0) $$ [Hst Ha Hv Hd Hz Ho Hb Hts]
  isplitr; · iexact Hctx
  isplitl [Hst]; · iexact Hst
  isplitl [Hv Hd Hz Ho]
  · rw [st_all]
    iapply (deal m d (m (oLoc d)))
    isplitl [Hz]; · iexact Hz
    isplitl [Hv]; · iexact Hv
    isplitl [Hd] <;> iassumption
  iintro ⟨Hst, Hdn⟩
  ihave Hdn' := ((Entails.of_eq (dn_all m d)).trans (collect m d)) $$ Hdn
  icases Hdn' with ⟨Hv, Hd, Ho⟩
  imodintro
  isplitl [Hst]; · iexact Hst
  isplitr [Hb Hts]
  · isplitl [Ha]; · iexact Ha
    isplitl [Hv]; · iexact Hv
    isplitl [Hd]; · iexact Hd
    iexact Ho
  isplitl [Hb] <;> iassumption

/-- What is read of a final state on device `d`. -/
def Ends (d : Dev nD) (μ : (ℓ : Loc nD τ sig) → Buf (Elt F) ℓ) : Prop :=
  (∀ p, Good m d p (μ (oLoc d) p)) ∧ μ (aLoc d) = m (aLoc d) ∧ μ (velLoc d) = m (velLoc d) ∧ μ (depLoc d) = m (depLoc d)

/-- The arrays held at the end are what memory holds. -/
theorem hfin (d : Dev nD) (s' : Phys nD τ sig (Elt F)) : iprop(FIN m d ∗ SI s') ⊢ (⌜Ends m d s'.mem.mem⌝ : sProp 𝕄) := by
  unfold FIN
  iintro ⟨⟨Ha, Hv, Hd, %g, %hg, Ho⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%ha, HSI, -⟩
  ihave H := (persistent_entails_right (SI_pointsTo_agree (st := s') (ℓ := velLoc d) (I := Finset.univ) (q := fullShare) (f := m (velLoc d)))) $$ [HSI Hv]
  · isplitl [HSI] <;> iassumption
  icases H with ⟨%hv, HSI, -⟩
  ihave H := (persistent_entails_right (SI_pointsTo_agree (st := s') (ℓ := depLoc d) (I := Finset.univ) (q := fullShare) (f := m (depLoc d)))) $$ [HSI Hd]
  · isplitl [HSI] <;> iassumption
  icases H with ⟨%hd, HSI, -⟩
  ihave H := (SI_pointsTo_agree (st := s') (ℓ := oLoc d) (I := Finset.univ) (q := fullShare) (f := g)) $$ [HSI Ho]
  · isplitl [HSI] <;> iassumption
  icases H with %ho
  ipureintro
  exact ⟨fun p => (ho p (Finset.mem_univ p)).symm ▸ hg p, funext fun i => ha i (Finset.mem_univ i), funext fun i => hv i (Finset.mem_univ i),
    funext fun i => hd i (Finset.mem_univ i)⟩

/-- Every run ends, each result entry good, the arguments as they were, every semaphore at zero. -/
theorem run_main [∀ e, Nonempty (Elt F e)] (hok : PreOK m) :
    θ_run (Cert.KernelIdeal.defs (F := F)) (Cert.KernelIdeal.threads (F := F)) ⟨m, fun _ => 0, ρ⟩
      (fun r => (∀ c : Dev nD, Ends m c r.2.mem) ∧ r.2.sem = fun _ => 0) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => task m hok)
    (fun q _ => match q with | 0 => SparseCore.Cfg.VecSplit.of_plain (split m))
    m ρ main (fun _ => iprop(emp)) (FIN m) (u₀ (F := F)) (sep_elim_left.trans (hu₀ m)) (hmain m ρ) (fun d s' => Ends m d s'.mem.mem) (hfin m)
    (fun r => (∀ c : Dev nD, Ends m c r.2.mem) ∧ r.2.sem = fun _ => 0) (fun _ h hz => ⟨h, hz⟩)

end Launch

end Cert.Proof.KI
-- ==== Proof.RefRun.lean ====
/-
  The reference's run: its 128 host operations in order, and what the output array holds after them, as one term of the
  three arguments. It follows the generated reading of a host program, with more room for the long list.
-/
module

public import proofs.«01_k».proof.Proof.Gen.ReferenceIdeal
public import Idealize.ShloMosaic.Lib.StableHlo.Run

@[expose] public section

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-- The layers' lower ends: one entry, then nine. It has a name so that its two operands can be rewritten inside it. -/
def fn_main_v5 : (⟨S1, .f32⟩ : BufTy).Contents (Elt F) → (⟨S9, .f32⟩ : BufTy).Contents (Elt F) → (⟨S10, .f32⟩ : BufTy).Contents (Elt F) :=
  (fun a b => concatenate S10 0 [⟨S1, a⟩, ⟨S9, b⟩] concatenates_S1_S9_S10_d0)

set_option maxRecDepth 8192 in
set_option maxHeartbeats 4000000 in
/-- The reference's operations, in order; those of a called function stand where it is called. -/
abbrev ops : List (HloOp τ sig (Elt F)) :=
  [ unary main_arg0 main_v0 ((extractStridedSlice S8388608x1 ![0, 2] · slices_S8388608x3_S8388608x1_0_2) : (⟨S8388608x3, .f32⟩ : BufTy).Contents (Elt F) → (⟨S8388608x1, .f32⟩ : BufTy).Contents (Elt F)),
    reshape main_v0 main_v1 (rfl : (.f32 : EltTy) = .f32) shapeCasts_S8388608x1_S8388608,
    nullary main_cst (constant S_ .f32 0x00000000#32),
    unary main_cst main_v2 (broadcastInDim S8388608 ![] bcast_S_S8388608 : (⟨S_, .f32⟩ : BufTy).Contents (Elt F) → (⟨S8388608, .f32⟩ : BufTy).Contents (Elt F)),
    nullary main_cst_0 (constant S_ .f32 0x00000000#32),
    unary main_cst_0 main_v3 (broadcastInDim S1 ![] bcast_S_S1 : (⟨S_, .f32⟩ : BufTy).Contents (Elt F) → (⟨S1, .f32⟩ : BufTy).Contents (Elt F)),
    unary main_arg2 main_v4 ((extractStridedSlice S9 ![0] · slices_S10_S9_0) : (⟨S10, .f32⟩ : BufTy).Contents (Elt F) → (⟨S9, .f32⟩ : BufTy).Contents (Elt F)),
    binary main_v3 main_v4 main_v5 (fn_main_v5 (F := F)),
    unary main_arg2 main_v6 ((extractStridedSlice S1 ![0] · slices_S10_S1_0) : (⟨S10, .f32⟩ : BufTy).Contents (Elt F) → (⟨S1, .f32⟩ : BufTy).Contents (Elt F)),
    reshape main_v6 main_v7 (rfl : (.f32 : EltTy) = .f32) shapeCasts_S1_S_,
    unary main_v7 main_v8 (broadcastInDim S8388608 ![] bcast_S_S8388608 : (⟨S_, .f32⟩ : BufTy).Contents (Elt F) → (⟨S8388608, .f32⟩ : BufTy).Contents (Elt F)),
    binary main_v1 main_v8 main_v9 (cmpf .ole : (⟨S8388608, .f32⟩ : BufTy).Contents (Elt F) → (⟨S8388608, .f32⟩ : BufTy).Contents (Elt F) → (⟨S8388608, .i1⟩ : BufTy).Contents (Elt F)),
    unary main_arg1 main_v10 ((extractStridedSlice S1 ![0] · slices_S10_S1_0) : (⟨S10, .f32⟩ : BufTy).Contents (Elt F) → (⟨S1, .f32⟩ : BufTy).Contents (Elt F)),
    reshape main_v10 main_v11 (rfl : (.f32 : EltTy) = .f32) shapeCasts_S1_S_,
    TRef.unary (TRef.of (T := ⟨S_, .f32⟩) main_v11) (TRef.of (T := ⟨S8388608, .f32⟩) main_call0_v0) (broadcastInDim S8388608 ![] bcast_S_S8388608),
    TRef.ternary (TRef.of (T := ⟨S8388608, .i1⟩) main_v9) (TRef.of (T := ⟨S8388608, .f32⟩) main_call0_v0) (TRef.of (T := ⟨S8388608, .f32⟩) main_v2) (TRef.of (T := ⟨S8388608, .f32⟩) main_v12) select,
    unary main_v5 main_v13 ((extractStridedSlice S1 ![1] · slices_S10_S1_1) : (⟨S10, .f32⟩ : BufTy).Contents (Elt F) → (⟨S1, .f32⟩ : BufTy).Contents (Elt F)),
    reshape main_v13 main_v14 (rfl : (.f32 : EltTy) = .f32) shapeCasts_S1_S_,
    unary main_v14 main_v15 (broadcastInDim S8388608 ![] bcast_S_S8388608 : (⟨S_, .f32⟩ : BufTy).Contents (Elt F) → (⟨S8388608, .f32⟩ : BufTy).Contents (Elt F)),
    binary main_v1 main_v15 main_v16 (cmpf .oge : (⟨S8388608, .f32⟩ : BufTy).Contents (Elt F) → (⟨S8388608, .f32⟩ : BufTy).Contents (Elt F) → (⟨S8388608, .i1⟩ : BufTy).Contents (Elt F)),
    unary main_arg2 main_v17 ((extractStridedSlice S1 ![1] · slices_S10_S1_1) : (⟨S10, .f32⟩ : BufTy).Contents (Elt F) → (⟨S1, .f32⟩ : BufTy).Contents (Elt F)),
    reshape main_v17 main_v18 (rfl : (.f32 : EltTy) = .f32) shapeCasts_S1_S_,
    unary main_v18 main_v19 (broadcastInDim S8388608 ![] bcast_S_S8388608 : (⟨S_, .f32⟩ : BufTy).Contents (Elt F) → (⟨S8388608, .f32⟩ : BufTy).Contents (Elt F)),
    binary main_v1 main_v19 main_v20 (cmpf .olt : (⟨S8388608, .f32⟩ : BufTy).Contents (Elt F) → (⟨S8388608, .f32⟩ : BufTy).Contents (Elt F) → (⟨S8388608, .i1⟩ : BufTy).Contents (Elt F)),
    binary main_v16 main_v20 main_v21 (andi : (⟨S8388608, .i1⟩ : BufTy).Contents (Elt F) → (⟨S8388608, .i1⟩ : BufTy).Contents (Elt F) → (⟨S8388608, .i1⟩ : BufTy).Contents (Elt F)),
    unary main_arg1 main_v22 ((extractStridedSlice S1 ![1] · slices_S10_S1_1) : (⟨S10, .f32⟩ : BufTy).Contents (Elt F) → (⟨S1, .f32⟩ : BufTy).Contents (Elt F)),
    reshape main_v22 main_v23 (rfl : (.f32 : EltTy) = .f32) shapeCasts_S1_S_,
    TRef.unary (TRef.of (T := ⟨S_, .f32⟩) main_v23) (TRef.of (T := ⟨S8388608, .f32⟩) main_call1_v0) (broadcastInDim S8388608 ![] bcast_S_S8388608),
    TRef.ternary (TRef.of (T := ⟨S8388608, .i1⟩) main_v21) (TRef.of (T := ⟨S8388608, .f32⟩) main_call1_v0) (TRef.of (T := ⟨S8388608, .f32⟩) main_v12) (TRef.of (T := ⟨S8388608, .f32⟩) main_v24) select,
    unary main_v5 main_v25 ((extractStridedSlice S1 ![2] · slices_S10_S1_2) : (⟨S10, .f32⟩ : BufTy).Contents (Elt F) → (⟨S1, .f32⟩ : BufTy).Contents (Elt F)),
    reshape main_v25 main_v26 (rfl : (.f32 : EltTy) = .f32) shapeCasts_S1_S_,
    unary main_v26 main_v27 (broadcastInDim S8388608 ![] bcast_S_S8388608 : (⟨S_, .f32⟩ : BufTy).Contents (Elt F) → (⟨S8388608, .f32⟩ : BufTy).Contents (Elt F)),
    binary main_v1 main_v27 main_v28 (cmpf .oge : (⟨S8388608, .f32⟩ : BufTy).Contents (Elt F) → (⟨S8388608, .f32⟩ : BufTy).Contents (Elt F) → (⟨S8388608, .i1⟩ : BufTy).Contents (Elt F)),
    unary main_arg2 main_v29 ((extractStridedSlice S1 ![2] · slices_S10_S1_2) : (⟨S10, .f32⟩ : BufTy).Contents (Elt F) → (⟨S1, .f32⟩ : BufTy).Contents (Elt F)),
    reshape main_v29 main_v30 (rfl : (.f32 : EltTy) = .f32) shapeCasts_S1_S_,
    unary main_v30 main_v31 (broadcastInDim S8388608 ![] bcast_S_S8388608 : (⟨S_, .f32⟩ : BufTy).Contents (Elt F) → (⟨S8388608, .f32⟩ : BufTy).Contents (Elt F)),
    binary main_v1 main_v31 main_v32 (cmpf .olt : (⟨S8388608, .f32⟩ : BufTy).Contents (Elt F) → (⟨S8388608, .f32⟩ : BufTy).Contents (Elt F) → (⟨S8388608, .i1⟩ : BufTy).Contents (Elt F)),
    binary main_v28 main_v32 main_v33 (andi : (⟨S8388608, .i1⟩ : BufTy).Contents (Elt F) → (⟨S8388608, .i1⟩ : BufTy).Contents (Elt F) → (⟨S8388608, .i1⟩ : BufTy).Contents (Elt F)),
    unary main_arg1 main_v34 ((extractStridedSlice S1 ![2] · slices_S10_S1_2) : (⟨S10, .f32⟩ : BufTy).Contents (Elt F) → (⟨S1, .f32⟩ : BufTy).Contents (Elt F)),
    reshape main_v34 main_v35 (rfl : (.f32 : EltTy) = .f32) shapeCasts_S1_S_,
    TRef.unary (TRef.of (T := ⟨S_, .f32⟩) main_v35) (TRef.of (T := ⟨S8388608, .f32⟩) main_call2_v0) (broadcastInDim S8388608 ![] bcast_S_S8388608),
    TRef.ternary (TRef.of (T := ⟨S8388608, .i1⟩) main_v33) (TRef.of (T := ⟨S8388608, .f32⟩) main_call2_v0) (TRef.of (T := ⟨S8388608, .f32⟩) main_v24) (TRef.of (T := ⟨S8388608, .f32⟩) main_v36) select,
    unary main_v5 main_v37 ((extractStridedSlice S1 ![3] · slices_S10_S1_3) : (⟨S10, .f32⟩ : BufTy).Contents (Elt F) → (⟨S1, .f32⟩ : BufTy).Contents (Elt F)),
    reshape main_v37 main_v38 (rfl : (.f32 : EltTy) = .f32) shapeCasts_S1_S_,
    unary main_v38 main_v39 (broadcastInDim S8388608 ![] bcast_S_S8388608 : (⟨S_, .f32⟩ : BufTy).Contents (Elt F) → (⟨S8388608, .f32⟩ : BufTy).Contents (Elt F)),
    binary main_v1 main_v39 main_v40 (cmpf .oge : (⟨S8388608, .f32⟩ : BufTy).Contents (Elt F) → (⟨S8388608, .f32⟩ : BufTy).Contents (Elt F) → (⟨S8388608, .i1⟩ : BufTy).Contents (Elt F)),
    unary main_arg2 main_v41 ((extractStridedSlice S1 ![3] · slices_S10_S1_3) : (⟨S10, .f32⟩ : BufTy).Contents (Elt F) → (⟨S1, .f32⟩ : BufTy).Contents (Elt F)),
    reshape main_v41 main_v42 (rfl : (.f32 : EltTy) = .f32) shapeCasts_S1_S_,
    unary main_v42 main_v43 (broadcastInDim S8388608 ![] bcast_S_S8388608 : (⟨S_, .f32⟩ : BufTy).Contents (Elt F) → (⟨S8388608, .f32⟩ : BufTy).Contents (Elt F)),
    binary main_v1 main_v43 main_v44 (cmpf .olt : (⟨S8388608, .f32⟩ : BufTy).Contents (Elt F) → (⟨S8388608, .f32⟩ : BufTy).Contents (Elt F) → (⟨S8388608, .i1⟩ : BufTy).Contents (Elt F)),
    binary main_v40 main_v44 main_v45 (andi : (⟨S8388608, .i1⟩ : BufTy).Contents (Elt F) → (⟨S8388608, .i1⟩ : BufTy).Contents (Elt F) → (⟨S8388608, .i1⟩ : BufTy).Contents (Elt F)),
    unary main_arg1 main_v46 ((extractStridedSlice S1 ![3] · slices_S10_S1_3) : (⟨S10, .f32⟩ : BufTy).Contents (Elt F) → (⟨S1, .f32⟩ : BufTy).Contents (Elt F)),
    reshape main_v46 main_v47 (rfl : (.f32 : EltTy) = .f32) shapeCasts_S1_S_,
    TRef.unary (TRef.of (T := ⟨S_, .f32⟩) main_v47) (TRef.of (T := ⟨S8388608, .f32⟩) main_call3_v0) (broadcastInDim S8388608 ![] bcast_S_S8388608),
    TRef.ternary (TRef.of (T := ⟨S8388608, .i1⟩) main_v45) (TRef.of (T := ⟨S8388608, .f32⟩) main_call3_v0) (TRef.of (T := ⟨S8388608, .f32⟩) main_v36) (TRef.of (T := ⟨S8388608, .f32⟩) main_v48) select,
    unary main_v5 main_v49 ((extractStridedSlice S1 ![4] · slices_S10_S1_4) : (⟨S10, .f32⟩ : BufTy).Contents (Elt F) → (⟨S1, .f32⟩ : BufTy).Contents (Elt F)),
    reshape main_v49 main_v50 (rfl : (.f32 : EltTy) = .f32) shapeCasts_S1_S_,
    unary main_v50 main_v51 (broadcastInDim S8388608 ![] bcast_S_S8388608 : (⟨S_, .f32⟩ : BufTy).Contents (Elt F) → (⟨S8388608, .f32⟩ : BufTy).Contents (Elt F)),
    binary main_v1 main_v51 main_v52 (cmpf .oge : (⟨S8388608, .f32⟩ : BufTy).Contents (Elt F) → (⟨S8388608, .f32⟩ : BufTy).Contents (Elt F) → (⟨S8388608, .i1⟩ : BufTy).Contents (Elt F)),
    unary main_arg2 main_v53 ((extractStridedSlice S1 ![4] · slices_S10_S1_4) : (⟨S10, .f32⟩ : BufTy).Contents (Elt F) → (⟨S1, .f32⟩ : BufTy).Contents (Elt F)),
    reshape main_v53 main_v54 (rfl : (.f32 : EltTy) = .f32) shapeCasts_S1_S_,
    unary main_v54 main_v55 (broadcastInDim S8388608 ![] bcast_S_S8388608 : (⟨S_, .f32⟩ : BufTy).Contents (Elt F) → (⟨S8388608, .f32⟩ : BufTy).Contents (Elt F)),
    binary main_v1 main_v55 main_v56 (cmpf .olt : (⟨S8388608, .f32⟩ : BufTy).Contents (Elt F) → (⟨S8388608, .f32⟩ : BufTy).Contents (Elt F) → (⟨S8388608, .i1⟩ : BufTy).Contents (Elt F)),
    binary main_v52 main_v56 main_v57 (andi : (⟨S8388608, .i1⟩ : BufTy).Contents (Elt F) → (⟨S8388608, .i1⟩ : BufTy).Contents (Elt F) → (⟨S8388608, .i1⟩ : BufTy).Contents (Elt F)),
    unary main_arg1 main_v58 ((extractStridedSlice S1 ![4] · slices_S10_S1_4) : (⟨S10, .f32⟩ : BufTy).Contents (Elt F) → (⟨S1, .f32⟩ : BufTy).Contents (Elt F)),
    reshape main_v58 main_v59 (rfl : (.f32 : EltTy) = .f32) shapeCasts_S1_S_,
    TRef.unary (TRef.of (T := ⟨S_, .f32⟩) main_v59) (TRef.of (T := ⟨S8388608, .f32⟩) main_call4_v0) (broadcastInDim S8388608 ![] bcast_S_S8388608),
    TRef.ternary (TRef.of (T := ⟨S8388608, .i1⟩) main_v57) (TRef.of (T := ⟨S8388608, .f32⟩) main_call4_v0) (TRef.of (T := ⟨S8388608, .f32⟩) main_v48) (TRef.of (T := ⟨S8388608, .f32⟩) main_v60) select,
    unary main_v5 main_v61 ((extractStridedSlice S1 ![5] · slices_S10_S1_5) : (⟨S10, .f32⟩ : BufTy).Contents (Elt F) → (⟨S1, .f32⟩ : BufTy).Contents (Elt F)),
    reshape main_v61 main_v62 (rfl : (.f32 : EltTy) = .f32) shapeCasts_S1_S_,
    unary main_v62 main_v63 (broadcastInDim S8388608 ![] bcast_S_S8388608 : (⟨S_, .f32⟩ : BufTy).Contents (Elt F) → (⟨S8388608, .f32⟩ : BufTy).Contents (Elt F)),
    binary main_v1 main_v63 main_v64 (cmpf .oge : (⟨S8388608, .f32⟩ : BufTy).Contents (Elt F) → (⟨S8388608, .f32⟩ : BufTy).Contents (Elt F) → (⟨S8388608, .i1⟩ : BufTy).Contents (Elt F)),
    unary main_arg2 main_v65 ((extractStridedSlice S1 ![5] · slices_S10_S1_5) : (⟨S10, .f32⟩ : BufTy).Contents (Elt F) → (⟨S1, .f32⟩ : BufTy).Contents (Elt F)),
    reshape main_v65 main_v66 (rfl : (.f32 : EltTy) = .f32) shapeCasts_S1_S_,
    unary main_v66 main_v67 (broadcastInDim S8388608 ![] bcast_S_S8388608 : (⟨S_, .f32⟩ : BufTy).Contents (Elt F) → (⟨S8388608, .f32⟩ : BufTy).Contents (Elt F)),
    binary main_v1 main_v67 main_v68 (cmpf .olt : (⟨S8388608, .f32⟩ : BufTy).Contents (Elt F) → (⟨S8388608, .f32⟩ : BufTy).Contents (Elt F) → (⟨S8388608, .i1⟩ : BufTy).Contents (Elt F)),
    binary main_v64 main_v68 main_v69 (andi : (⟨S8388608, .i1⟩ : BufTy).Contents (Elt F) → (⟨S8388608, .i1⟩ : BufTy).Contents (Elt F) → (⟨S8388608, .i1⟩ : BufTy).Contents (Elt F)),
    unary main_arg1 main_v70 ((extractStridedSlice S1 ![5] · slices_S10_S1_5) : (⟨S10, .f32⟩ : BufTy).Contents (Elt F) → (⟨S1, .f32⟩ : BufTy).Contents (Elt F)),
    reshape main_v70 main_v71 (rfl : (.f32 : EltTy) = .f32) shapeCasts_S1_S_,
    TRef.unary (TRef.of (T := ⟨S_, .f32⟩) main_v71) (TRef.of (T := ⟨S8388608, .f32⟩) main_call5_v0) (broadcastInDim S8388608 ![] bcast_S_S8388608),
    TRef.ternary (TRef.of (T := ⟨S8388608, .i1⟩) main_v69) (TRef.of (T := ⟨S8388608, .f32⟩) main_call5_v0) (TRef.of (T := ⟨S8388608, .f32⟩) main_v60) (TRef.of (T := ⟨S8388608, .f32⟩) main_v72) select,
    unary main_v5 main_v73 ((extractStridedSlice S1 ![6] · slices_S10_S1_6) : (⟨S10, .f32⟩ : BufTy).Contents (Elt F) → (⟨S1, .f32⟩ : BufTy).Contents (Elt F)),
    reshape main_v73 main_v74 (rfl : (.f32 : EltTy) = .f32) shapeCasts_S1_S_,
    unary main_v74 main_v75 (broadcastInDim S8388608 ![] bcast_S_S8388608 : (⟨S_, .f32⟩ : BufTy).Contents (Elt F) → (⟨S8388608, .f32⟩ : BufTy).Contents (Elt F)),
    binary main_v1 main_v75 main_v76 (cmpf .oge : (⟨S8388608, .f32⟩ : BufTy).Contents (Elt F) → (⟨S8388608, .f32⟩ : BufTy).Contents (Elt F) → (⟨S8388608, .i1⟩ : BufTy).Contents (Elt F)),
    unary main_arg2 main_v77 ((extractStridedSlice S1 ![6] · slices_S10_S1_6) : (⟨S10, .f32⟩ : BufTy).Contents (Elt F) → (⟨S1, .f32⟩ : BufTy).Contents (Elt F)),
    reshape main_v77 main_v78 (rfl : (.f32 : EltTy) = .f32) shapeCasts_S1_S_,
    unary main_v78 main_v79 (broadcastInDim S8388608 ![] bcast_S_S8388608 : (⟨S_, .f32⟩ : BufTy).Contents (Elt F) → (⟨S8388608, .f32⟩ : BufTy).Contents (Elt F)),
    binary main_v1 main_v79 main_v80 (cmpf .olt : (⟨S8388608, .f32⟩ : BufTy).Contents (Elt F) → (⟨S8388608, .f32⟩ : BufTy).Contents (Elt F) → (⟨S8388608, .i1⟩ : BufTy).Contents (Elt F)),
    binary main_v76 main_v80 main_v81 (andi : (⟨S8388608, .i1⟩ : BufTy).Contents (Elt F) → (⟨S8388608, .i1⟩ : BufTy).Contents (Elt F) → (⟨S8388608, .i1⟩ : BufTy).Contents (Elt F)),
    unary main_arg1 main_v82 ((extractStridedSlice S1 ![6] · slices_S10_S1_6) : (⟨S10, .f32⟩ : BufTy).Contents (Elt F) → (⟨S1, .f32⟩ : BufTy).Contents (Elt F)),
    reshape main_v82 main_v83 (rfl : (.f32 : EltTy) = .f32) shapeCasts_S1_S_,
    TRef.unary (TRef.of (T := ⟨S_, .f32⟩) main_v83) (TRef.of (T := ⟨S8388608, .f32⟩) main_call6_v0) (broadcastInDim S8388608 ![] bcast_S_S8388608),
    TRef.ternary (TRef.of (T := ⟨S8388608, .i1⟩) main_v81) (TRef.of (T := ⟨S8388608, .f32⟩) main_call6_v0) (TRef.of (T := ⟨S8388608, .f32⟩) main_v72) (TRef.of (T := ⟨S8388608, .f32⟩) main_v84) select,
    unary main_v5 main_v85 ((extractStridedSlice S1 ![7] · slices_S10_S1_7) : (⟨S10, .f32⟩ : BufTy).Contents (Elt F) → (⟨S1, .f32⟩ : BufTy).Contents (Elt F)),
    reshape main_v85 main_v86 (rfl : (.f32 : EltTy) = .f32) shapeCasts_S1_S_,
    unary main_v86 main_v87 (broadcastInDim S8388608 ![] bcast_S_S8388608 : (⟨S_, .f32⟩ : BufTy).Contents (Elt F) → (⟨S8388608, .f32⟩ : BufTy).Contents (Elt F)),
    binary main_v1 main_v87 main_v88 (cmpf .oge : (⟨S8388608, .f32⟩ : BufTy).Contents (Elt F) → (⟨S8388608, .f32⟩ : BufTy).Contents (Elt F) → (⟨S8388608, .i1⟩ : BufTy).Contents (Elt F)),
    unary main_arg2 main_v89 ((extractStridedSlice S1 ![7] · slices_S10_S1_7) : (⟨S10, .f32⟩ : BufTy).Contents (Elt F) → (⟨S1, .f32⟩ : BufTy).Contents (Elt F)),
    reshape main_v89 main_v90 (rfl : (.f32 : EltTy) = .f32) shapeCasts_S1_S_,
    unary main_v90 main_v91 (broadcastInDim S8388608 ![] bcast_S_S8388608 : (⟨S_, .f32⟩ : BufTy).Contents (Elt F) → (⟨S8388608, .f32⟩ : BufTy).Contents (Elt F)),
    binary main_v1 main_v91 main_v92 (cmpf .olt : (⟨S8388608, .f32⟩ : BufTy).Contents (Elt F) → (⟨S8388608, .f32⟩ : BufTy).Contents (Elt F) → (⟨S8388608, .i1⟩ : BufTy).Contents (Elt F)),
    binary main_v88 main_v92 main_v93 (andi : (⟨S8388608, .i1⟩ : BufTy).Contents (Elt F) → (⟨S8388608, .i1⟩ : BufTy).Contents (Elt F) → (⟨S8388608, .i1⟩ : BufTy).Contents (Elt F)),
    unary main_arg1 main_v94 ((extractStridedSlice S1 ![7] · slices_S10_S1_7) : (⟨S10, .f32⟩ : BufTy).Contents (Elt F) → (⟨S1, .f32⟩ : BufTy).Contents (Elt F)),
    reshape main_v94 main_v95 (rfl : (.f32 : EltTy) = .f32) shapeCasts_S1_S_,
    TRef.unary (TRef.of (T := ⟨S_, .f32⟩) main_v95) (TRef.of (T := ⟨S8388608, .f32⟩) main_call7_v0) (broadcastInDim S8388608 ![] bcast_S_S8388608),
    TRef.ternary (TRef.of (T := ⟨S8388608, .i1⟩) main_v93) (TRef.of (T := ⟨S8388608, .f32⟩) main_call7_v0) (TRef.of (T := ⟨S8388608, .f32⟩) main_v84) (TRef.of (T := ⟨S8388608, .f32⟩) main_v96) select,
    unary main_v5 main_v97 ((extractStridedSlice S1 ![8] · slices_S10_S1_8) : (⟨S10, .f32⟩ : BufTy).Contents (Elt F) → (⟨S1, .f32⟩ : BufTy).Contents (Elt F)),
    reshape main_v97 main_v98 (rfl : (.f32 : EltTy) = .f32) shapeCasts_S1_S_,
    unary main_v98 main_v99 (broadcastInDim S8388608 ![] bcast_S_S8388608 : (⟨S_, .f32⟩ : BufTy).Contents (Elt F) → (⟨S8388608, .f32⟩ : BufTy).Contents (Elt F)),
    binary main_v1 main_v99 main_v100 (cmpf .oge : (⟨S8388608, .f32⟩ : BufTy).Contents (Elt F) → (⟨S8388608, .f32⟩ : BufTy).Contents (Elt F) → (⟨S8388608, .i1⟩ : BufTy).Contents (Elt F)),
    unary main_arg2 main_v101 ((extractStridedSlice S1 ![8] · slices_S10_S1_8) : (⟨S10, .f32⟩ : BufTy).Contents (Elt F) → (⟨S1, .f32⟩ : BufTy).Contents (Elt F)),
    reshape main_v101 main_v102 (rfl : (.f32 : EltTy) = .f32) shapeCasts_S1_S_,
    unary main_v102 main_v103 (broadcastInDim S8388608 ![] bcast_S_S8388608 : (⟨S_, .f32⟩ : BufTy).Contents (Elt F) → (⟨S8388608, .f32⟩ : BufTy).Contents (Elt F)),
    binary main_v1 main_v103 main_v104 (cmpf .olt : (⟨S8388608, .f32⟩ : BufTy).Contents (Elt F) → (⟨S8388608, .f32⟩ : BufTy).Contents (Elt F) → (⟨S8388608, .i1⟩ : BufTy).Contents (Elt F)),
    binary main_v100 main_v104 main_v105 (andi : (⟨S8388608, .i1⟩ : BufTy).Contents (Elt F) → (⟨S8388608, .i1⟩ : BufTy).Contents (Elt F) → (⟨S8388608, .i1⟩ : BufTy).Contents (Elt F)),
    unary main_arg1 main_v106 ((extractStridedSlice S1 ![8] · slices_S10_S1_8) : (⟨S10, .f32⟩ : BufTy).Contents (Elt F) → (⟨S1, .f32⟩ : BufTy).Contents (Elt F)),
    reshape main_v106 main_v107 (rfl : (.f32 : EltTy) = .f32) shapeCasts_S1_S_,
    TRef.unary (TRef.of (T := ⟨S_, .f32⟩) main_v107) (TRef.of (T := ⟨S8388608, .f32⟩) main_call8_v0) (broadcastInDim S8388608 ![] bcast_S_S8388608),
    TRef.ternary (TRef.of (T := ⟨S8388608, .i1⟩) main_v105) (TRef.of (T := ⟨S8388608, .f32⟩) main_call8_v0) (TRef.of (T := ⟨S8388608, .f32⟩) main_v96) (TRef.of (T := ⟨S8388608, .f32⟩) main_v108) select,
    unary main_v5 main_v109 ((extractStridedSlice S1 ![9] · slices_S10_S1_9) : (⟨S10, .f32⟩ : BufTy).Contents (Elt F) → (⟨S1, .f32⟩ : BufTy).Contents (Elt F)),
    reshape main_v109 main_v110 (rfl : (.f32 : EltTy) = .f32) shapeCasts_S1_S_,
    unary main_v110 main_v111 (broadcastInDim S8388608 ![] bcast_S_S8388608 : (⟨S_, .f32⟩ : BufTy).Contents (Elt F) → (⟨S8388608, .f32⟩ : BufTy).Contents (Elt F)),
    binary main_v1 main_v111 main_v112 (cmpf .oge : (⟨S8388608, .f32⟩ : BufTy).Contents (Elt F) → (⟨S8388608, .f32⟩ : BufTy).Contents (Elt F) → (⟨S8388608, .i1⟩ : BufTy).Contents (Elt F)),
    unary main_arg1 main_v113 ((extractStridedSlice S1 ![9] · slices_S10_S1_9) : (⟨S10, .f32⟩ : BufTy).Contents (Elt F) → (⟨S1, .f32⟩ : BufTy).Contents (Elt F)),
    reshape main_v113 main_v114 (rfl : (.f32 : EltTy) = .f32) shapeCasts_S1_S_,
    TRef.unary (TRef.of (T := ⟨S_, .f32⟩) main_v114) (TRef.of (T := ⟨S8388608, .f32⟩) main_call9_v0) (broadcastInDim S8388608 ![] bcast_S_S8388608),
    TRef.ternary (TRef.of (T := ⟨S8388608, .i1⟩) main_v112) (TRef.of (T := ⟨S8388608, .f32⟩) main_call9_v0) (TRef.of (T := ⟨S8388608, .f32⟩) main_v108) (TRef.of (T := ⟨S8388608, .f32⟩) main_v115) select ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., nullary_bufs_sub .., unary_bufs_sub .., nullary_bufs_sub .., unary_bufs_sub .., unary_bufs_sub .., binary_bufs_sub .., unary_bufs_sub .., reshape_bufs_sub .., unary_bufs_sub .., binary_bufs_sub .., unary_bufs_sub .., reshape_bufs_sub .., unary_bufs_sub .., ternary_bufs_sub .., unary_bufs_sub .., reshape_bufs_sub .., unary_bufs_sub .., binary_bufs_sub .., unary_bufs_sub .., reshape_bufs_sub .., unary_bufs_sub .., binary_bufs_sub .., binary_bufs_sub .., unary_bufs_sub .., reshape_bufs_sub .., unary_bufs_sub .., ternary_bufs_sub .., unary_bufs_sub .., reshape_bufs_sub .., unary_bufs_sub .., binary_bufs_sub .., unary_bufs_sub .., reshape_bufs_sub .., unary_bufs_sub .., binary_bufs_sub .., binary_bufs_sub .., unary_bufs_sub .., reshape_bufs_sub .., unary_bufs_sub .., ternary_bufs_sub .., unary_bufs_sub .., reshape_bufs_sub .., unary_bufs_sub .., binary_bufs_sub .., unary_bufs_sub .., reshape_bufs_sub .., unary_bufs_sub .., binary_bufs_sub .., binary_bufs_sub .., unary_bufs_sub .., reshape_bufs_sub .., unary_bufs_sub .., ternary_bufs_sub .., unary_bufs_sub .., reshape_bufs_sub .., unary_bufs_sub .., binary_bufs_sub .., unary_bufs_sub .., reshape_bufs_sub .., unary_bufs_sub .., binary_bufs_sub .., binary_bufs_sub .., unary_bufs_sub .., reshape_bufs_sub .., unary_bufs_sub .., ternary_bufs_sub .., unary_bufs_sub .., reshape_bufs_sub .., unary_bufs_sub .., binary_bufs_sub .., unary_bufs_sub .., reshape_bufs_sub .., unary_bufs_sub .., binary_bufs_sub .., binary_bufs_sub .., unary_bufs_sub .., reshape_bufs_sub .., unary_bufs_sub .., ternary_bufs_sub .., unary_bufs_sub .., reshape_bufs_sub .., unary_bufs_sub .., binary_bufs_sub .., unary_bufs_sub .., reshape_bufs_sub .., unary_bufs_sub .., binary_bufs_sub .., binary_bufs_sub .., unary_bufs_sub .., reshape_bufs_sub .., unary_bufs_sub .., ternary_bufs_sub .., unary_bufs_sub .., reshape_bufs_sub .., unary_bufs_sub .., binary_bufs_sub .., unary_bufs_sub .., reshape_bufs_sub .., unary_bufs_sub .., binary_bufs_sub .., binary_bufs_sub .., unary_bufs_sub .., reshape_bufs_sub .., unary_bufs_sub .., ternary_bufs_sub .., unary_bufs_sub .., reshape_bufs_sub .., unary_bufs_sub .., binary_bufs_sub .., unary_bufs_sub .., reshape_bufs_sub .., unary_bufs_sub .., binary_bufs_sub .., binary_bufs_sub .., unary_bufs_sub .., reshape_bufs_sub .., unary_bufs_sub .., ternary_bufs_sub .., unary_bufs_sub .., reshape_bufs_sub .., unary_bufs_sub .., binary_bufs_sub .., unary_bufs_sub .., reshape_bufs_sub .., unary_bufs_sub .., ternary_bufs_sub ..⟩

set_option maxRecDepth 8192 in
/-- The output as a term of the arguments. -/
def res_main_v115 (m : (ℓ : Loc nD τ sig) → Buf (Elt F) ℓ) (c : Dev nD) : Buf (Elt F) ((c.tc : Thread nD τ).loc main_v115) :=
  select (cmpf .oge (shapeCast _ (extractStridedSlice S8388608x1 ![0, 2] (m ((c.tc : Thread nD τ).loc main_arg0)) slices_S8388608x3_S8388608x1_0_2) shapeCasts_S8388608x1_S8388608) (broadcastInDim S8388608 ![] bcast_S_S8388608 (shapeCast _ (extractStridedSlice S1 ![9] (concatenate S10 0 [⟨S1, (broadcastInDim S1 ![] bcast_S_S1 (constant S_ .f32 0x00000000#32))⟩, ⟨S9, (extractStridedSlice S9 ![0] (m ((c.tc : Thread nD τ).loc main_arg2)) slices_S10_S9_0)⟩] concatenates_S1_S9_S10_d0) slices_S10_S1_9) shapeCasts_S1_S_))) (broadcastInDim S8388608 ![] bcast_S_S8388608 (shapeCast _ (extractStridedSlice S1 ![9] (m ((c.tc : Thread nD τ).loc main_arg1)) slices_S10_S1_9) shapeCasts_S1_S_)) (select (andi (cmpf .oge (shapeCast _ (extractStridedSlice S8388608x1 ![0, 2] (m ((c.tc : Thread nD τ).loc main_arg0)) slices_S8388608x3_S8388608x1_0_2) shapeCasts_S8388608x1_S8388608) (broadcastInDim S8388608 ![] bcast_S_S8388608 (shapeCast _ (extractStridedSlice S1 ![8] (concatenate S10 0 [⟨S1, (broadcastInDim S1 ![] bcast_S_S1 (constant S_ .f32 0x00000000#32))⟩, ⟨S9, (extractStridedSlice S9 ![0] (m ((c.tc : Thread nD τ).loc main_arg2)) slices_S10_S9_0)⟩] concatenates_S1_S9_S10_d0) slices_S10_S1_8) shapeCasts_S1_S_))) (cmpf .olt (shapeCast _ (extractStridedSlice S8388608x1 ![0, 2] (m ((c.tc : Thread nD τ).loc main_arg0)) slices_S8388608x3_S8388608x1_0_2) shapeCasts_S8388608x1_S8388608) (broadcastInDim S8388608 ![] bcast_S_S8388608 (shapeCast _ (extractStridedSlice S1 ![8] (m ((c.tc : Thread nD τ).loc main_arg2)) slices_S10_S1_8) shapeCasts_S1_S_)))) (broadcastInDim S8388608 ![] bcast_S_S8388608 (shapeCast _ (extractStridedSlice S1 ![8] (m ((c.tc : Thread nD τ).loc main_arg1)) slices_S10_S1_8) shapeCasts_S1_S_)) (select (andi (cmpf .oge (shapeCast _ (extractStridedSlice S8388608x1 ![0, 2] (m ((c.tc : Thread nD τ).loc main_arg0)) slices_S8388608x3_S8388608x1_0_2) shapeCasts_S8388608x1_S8388608) (broadcastInDim S8388608 ![] bcast_S_S8388608 (shapeCast _ (extractStridedSlice S1 ![7] (concatenate S10 0 [⟨S1, (broadcastInDim S1 ![] bcast_S_S1 (constant S_ .f32 0x00000000#32))⟩, ⟨S9, (extractStridedSlice S9 ![0] (m ((c.tc : Thread nD τ).loc main_arg2)) slices_S10_S9_0)⟩] concatenates_S1_S9_S10_d0) slices_S10_S1_7) shapeCasts_S1_S_))) (cmpf .olt (shapeCast _ (extractStridedSlice S8388608x1 ![0, 2] (m ((c.tc : Thread nD τ).loc main_arg0)) slices_S8388608x3_S8388608x1_0_2) shapeCasts_S8388608x1_S8388608) (broadcastInDim S8388608 ![] bcast_S_S8388608 (shapeCast _ (extractStridedSlice S1 ![7] (m ((c.tc : Thread nD τ).loc main_arg2)) slices_S10_S1_7) shapeCasts_S1_S_)))) (broadcastInDim S8388608 ![] bcast_S_S8388608 (shapeCast _ (extractStridedSlice S1 ![7] (m ((c.tc : Thread nD τ).loc main_arg1)) slices_S10_S1_7) shapeCasts_S1_S_)) (select (andi (cmpf .oge (shapeCast _ (extractStridedSlice S8388608x1 ![0, 2] (m ((c.tc : Thread nD τ).loc main_arg0)) slices_S8388608x3_S8388608x1_0_2) shapeCasts_S8388608x1_S8388608) (broadcastInDim S8388608 ![] bcast_S_S8388608 (shapeCast _ (extractStridedSlice S1 ![6] (concatenate S10 0 [⟨S1, (broadcastInDim S1 ![] bcast_S_S1 (constant S_ .f32 0x00000000#32))⟩, ⟨S9, (extractStridedSlice S9 ![0] (m ((c.tc : Thread nD τ).loc main_arg2)) slices_S10_S9_0)⟩] concatenates_S1_S9_S10_d0) slices_S10_S1_6) shapeCasts_S1_S_))) (cmpf .olt (shapeCast _ (extractStridedSlice S8388608x1 ![0, 2] (m ((c.tc : Thread nD τ).loc main_arg0)) slices_S8388608x3_S8388608x1_0_2) shapeCasts_S8388608x1_S8388608) (broadcastInDim S8388608 ![] bcast_S_S8388608 (shapeCast _ (extractStridedSlice S1 ![6] (m ((c.tc : Thread nD τ).loc main_arg2)) slices_S10_S1_6) shapeCasts_S1_S_)))) (broadcastInDim S8388608 ![] bcast_S_S8388608 (shapeCast _ (extractStridedSlice S1 ![6] (m ((c.tc : Thread nD τ).loc main_arg1)) slices_S10_S1_6) shapeCasts_S1_S_)) (select (andi (cmpf .oge (shapeCast _ (extractStridedSlice S8388608x1 ![0, 2] (m ((c.tc : Thread nD τ).loc main_arg0)) slices_S8388608x3_S8388608x1_0_2) shapeCasts_S8388608x1_S8388608) (broadcastInDim S8388608 ![] bcast_S_S8388608 (shapeCast _ (extractStridedSlice S1 ![5] (concatenate S10 0 [⟨S1, (broadcastInDim S1 ![] bcast_S_S1 (constant S_ .f32 0x00000000#32))⟩, ⟨S9, (extractStridedSlice S9 ![0] (m ((c.tc : Thread nD τ).loc main_arg2)) slices_S10_S9_0)⟩] concatenates_S1_S9_S10_d0) slices_S10_S1_5) shapeCasts_S1_S_))) (cmpf .olt (shapeCast _ (extractStridedSlice S8388608x1 ![0, 2] (m ((c.tc : Thread nD τ).loc main_arg0)) slices_S8388608x3_S8388608x1_0_2) shapeCasts_S8388608x1_S8388608) (broadcastInDim S8388608 ![] bcast_S_S8388608 (shapeCast _ (extractStridedSlice S1 ![5] (m ((c.tc : Thread nD τ).loc main_arg2)) slices_S10_S1_5) shapeCasts_S1_S_)))) (broadcastInDim S8388608 ![] bcast_S_S8388608 (shapeCast _ (extractStridedSlice S1 ![5] (m ((c.tc : Thread nD τ).loc main_arg1)) slices_S10_S1_5) shapeCasts_S1_S_)) (select (andi (cmpf .oge (shapeCast _ (extractStridedSlice S8388608x1 ![0, 2] (m ((c.tc : Thread nD τ).loc main_arg0)) slices_S8388608x3_S8388608x1_0_2) shapeCasts_S8388608x1_S8388608) (broadcastInDim S8388608 ![] bcast_S_S8388608 (shapeCast _ (extractStridedSlice S1 ![4] (concatenate S10 0 [⟨S1, (broadcastInDim S1 ![] bcast_S_S1 (constant S_ .f32 0x00000000#32))⟩, ⟨S9, (extractStridedSlice S9 ![0] (m ((c.tc : Thread nD τ).loc main_arg2)) slices_S10_S9_0)⟩] concatenates_S1_S9_S10_d0) slices_S10_S1_4) shapeCasts_S1_S_))) (cmpf .olt (shapeCast _ (extractStridedSlice S8388608x1 ![0, 2] (m ((c.tc : Thread nD τ).loc main_arg0)) slices_S8388608x3_S8388608x1_0_2) shapeCasts_S8388608x1_S8388608) (broadcastInDim S8388608 ![] bcast_S_S8388608 (shapeCast _ (extractStridedSlice S1 ![4] (m ((c.tc : Thread nD τ).loc main_arg2)) slices_S10_S1_4) shapeCasts_S1_S_)))) (broadcastInDim S8388608 ![] bcast_S_S8388608 (shapeCast _ (extractStridedSlice S1 ![4] (m ((c.tc : Thread nD τ).loc main_arg1)) slices_S10_S1_4) shapeCasts_S1_S_)) (select (andi (cmpf .oge (shapeCast _ (extractStridedSlice S8388608x1 ![0, 2] (m ((c.tc : Thread nD τ).loc main_arg0)) slices_S8388608x3_S8388608x1_0_2) shapeCasts_S8388608x1_S8388608) (broadcastInDim S8388608 ![] bcast_S_S8388608 (shapeCast _ (extractStridedSlice S1 ![3] (concatenate S10 0 [⟨S1, (broadcastInDim S1 ![] bcast_S_S1 (constant S_ .f32 0x00000000#32))⟩, ⟨S9, (extractStridedSlice S9 ![0] (m ((c.tc : Thread nD τ).loc main_arg2)) slices_S10_S9_0)⟩] concatenates_S1_S9_S10_d0) slices_S10_S1_3) shapeCasts_S1_S_))) (cmpf .olt (shapeCast _ (extractStridedSlice S8388608x1 ![0, 2] (m ((c.tc : Thread nD τ).loc main_arg0)) slices_S8388608x3_S8388608x1_0_2) shapeCasts_S8388608x1_S8388608) (broadcastInDim S8388608 ![] bcast_S_S8388608 (shapeCast _ (extractStridedSlice S1 ![3] (m ((c.tc : Thread nD τ).loc main_arg2)) slices_S10_S1_3) shapeCasts_S1_S_)))) (broadcastInDim S8388608 ![] bcast_S_S8388608 (shapeCast _ (extractStridedSlice S1 ![3] (m ((c.tc : Thread nD τ).loc main_arg1)) slices_S10_S1_3) shapeCasts_S1_S_)) (select (andi (cmpf .oge (shapeCast _ (extractStridedSlice S8388608x1 ![0, 2] (m ((c.tc : Thread nD τ).loc main_arg0)) slices_S8388608x3_S8388608x1_0_2) shapeCasts_S8388608x1_S8388608) (broadcastInDim S8388608 ![] bcast_S_S8388608 (shapeCast _ (extractStridedSlice S1 ![2] (concatenate S10 0 [⟨S1, (broadcastInDim S1 ![] bcast_S_S1 (constant S_ .f32 0x00000000#32))⟩, ⟨S9, (extractStridedSlice S9 ![0] (m ((c.tc : Thread nD τ).loc main_arg2)) slices_S10_S9_0)⟩] concatenates_S1_S9_S10_d0) slices_S10_S1_2) shapeCasts_S1_S_))) (cmpf .olt (shapeCast _ (extractStridedSlice S8388608x1 ![0, 2] (m ((c.tc : Thread nD τ).loc main_arg0)) slices_S8388608x3_S8388608x1_0_2) shapeCasts_S8388608x1_S8388608) (broadcastInDim S8388608 ![] bcast_S_S8388608 (shapeCast _ (extractStridedSlice S1 ![2] (m ((c.tc : Thread nD τ).loc main_arg2)) slices_S10_S1_2) shapeCasts_S1_S_)))) (broadcastInDim S8388608 ![] bcast_S_S8388608 (shapeCast _ (extractStridedSlice S1 ![2] (m ((c.tc : Thread nD τ).loc main_arg1)) slices_S10_S1_2) shapeCasts_S1_S_)) (select (andi (cmpf .oge (shapeCast _ (extractStridedSlice S8388608x1 ![0, 2] (m ((c.tc : Thread nD τ).loc main_arg0)) slices_S8388608x3_S8388608x1_0_2) shapeCasts_S8388608x1_S8388608) (broadcastInDim S8388608 ![] bcast_S_S8388608 (shapeCast _ (extractStridedSlice S1 ![1] (concatenate S10 0 [⟨S1, (broadcastInDim S1 ![] bcast_S_S1 (constant S_ .f32 0x00000000#32))⟩, ⟨S9, (extractStridedSlice S9 ![0] (m ((c.tc : Thread nD τ).loc main_arg2)) slices_S10_S9_0)⟩] concatenates_S1_S9_S10_d0) slices_S10_S1_1) shapeCasts_S1_S_))) (cmpf .olt (shapeCast _ (extractStridedSlice S8388608x1 ![0, 2] (m ((c.tc : Thread nD τ).loc main_arg0)) slices_S8388608x3_S8388608x1_0_2) shapeCasts_S8388608x1_S8388608) (broadcastInDim S8388608 ![] bcast_S_S8388608 (shapeCast _ (extractStridedSlice S1 ![1] (m ((c.tc : Thread nD τ).loc main_arg2)) slices_S10_S1_1) shapeCasts_S1_S_)))) (broadcastInDim S8388608 ![] bcast_S_S8388608 (shapeCast _ (extractStridedSlice S1 ![1] (m ((c.tc : Thread nD τ).loc main_arg1)) slices_S10_S1_1) shapeCasts_S1_S_)) (select (cmpf .ole (shapeCast _ (extractStridedSlice S8388608x1 ![0, 2] (m ((c.tc : Thread nD τ).loc main_arg0)) slices_S8388608x3_S8388608x1_0_2) shapeCasts_S8388608x1_S8388608) (broadcastInDim S8388608 ![] bcast_S_S8388608 (shapeCast _ (extractStridedSlice S1 ![0] (m ((c.tc : Thread nD τ).loc main_arg2)) slices_S10_S1_0) shapeCasts_S1_S_))) (broadcastInDim S8388608 ![] bcast_S_S8388608 (shapeCast _ (extractStridedSlice S1 ![0] (m ((c.tc : Thread nD τ).loc main_arg1)) slices_S10_S1_0) shapeCasts_S1_S_)) (broadcastInDim S8388608 ![] bcast_S_S8388608 (constant S_ .f32 0x00000000#32)))))))))))

/-- The same, by its place among the results. -/
abbrev res_out0 (m : (ℓ : Loc nD τ sig) → Buf (Elt F) ℓ) (c : Dev nD) : Buf (Elt F) ((c.tc : Thread nD τ).loc main_v115) := res_main_v115 m c

set_option maxRecDepth 8192 in
set_option maxHeartbeats 51200000 in
/-- Every run of the reference ends with the output at that term and the arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v115) = res_main_v115 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v115).trans (by simp only [ops, TRef.ternary, TRef.unary, TRef.toBuf, TRef.ofBuf, cast_eq]; after_results_simp <;> rfl <;> (unfold res_main_v115; rfl)),
      (h c main_arg0).trans (by simp only [ops, TRef.ternary, TRef.unary, TRef.toBuf, TRef.ofBuf, cast_eq]; after_results_simp <;> rfl),
      (h c main_arg1).trans (by simp only [ops, TRef.ternary, TRef.unary, TRef.toBuf, TRef.ofBuf, cast_eq]; after_results_simp <;> rfl),
      (h c main_arg2).trans (by simp only [ops, TRef.ternary, TRef.unary, TRef.toBuf, TRef.ofBuf, cast_eq]; after_results_simp <;> rfl)⟩)
    (run_seq scopedRefs_eq scopedSems_eq defs main (fun _ => ops) main_eq (fun _ => ops_sub) m ρ)

end Cert.Proof.Ref

end
-- ==== Proof.Layers.lean ====
/-
  The mathematics of the layers, on the extended reals: the running sum of the velocity steps at every interface passed
  is the velocity of the layer, as the loop that overwrites a layer at a time leaves it; and a depth is past an interface
  at a multiple of 50 exactly when the left end of its bin of 50 is.
-/
module

public import Idealize.ShloMosaic.PureOps.Ideal
public import Idealize.ShloMosaic.PureOps.Ideal.Laws

@[expose] public section

noncomputable section

namespace Cert.Proof.Layers

open Idealize.ShloMosaic

/-- The velocity at the top, and a step to the next one at each of the first `n` interfaces that `z` is at or past. -/
def climb (z : EReal) (d v : ℕ → EReal) : ℕ → EReal
  | 0 => v 0
  | n + 1 => if d n ≤ z then climb z d v n + (v (n + 1) - v n) else climb z d v n

/-- The loop over the layers `0 … n`, a later one overwriting. -/
def overwrite (z : EReal) (d v : ℕ → EReal) : ℕ → EReal
  | 0 => if z ≤ d 0 then v 0 else 0
  | n + 1 => if d n ≤ z ∧ z < d (n + 1) then v (n + 1) else overwrite z d v n

/-- A step between two real numbers leads from the one to the other. -/
theorem add_step {a b : EReal} (ha : ∃ r : ℝ, a = r) (hb : ∃ r : ℝ, b = r) : a + (b - a) = b := by
  obtain ⟨x, rfl⟩ := ha
  obtain ⟨y, rfl⟩ := hb
  rw [← EReal.coe_sub, ← EReal.coe_add]
  congr 1; ring

variable (z : EReal) (d v : ℕ → EReal)

/-- At or past the last interface the sum has come to that layer's velocity; before the next one it is what the loop
    has written. -/
theorem climb_spec (hd : ∀ j < 8, d j ≤ d (j + 1)) (hv : ∀ j < 10, ∃ r : ℝ, v j = r) (n : ℕ) (hn : n ≤ 8) :
    ((∀ j, n = j + 1 → d j ≤ z) → climb z d v n = v n) ∧ (z < d n → climb z d v n = overwrite z d v n) := by
  induction n with
  | zero => exact ⟨fun _ => rfl, fun h => by simp [climb, overwrite, h.le]⟩
  | succ n ih =>
    obtain ⟨h1, h2⟩ := ih (by omega)
    have top : d n ≤ z → climb z d v (n + 1) = v (n + 1) := fun h => by
      rw [climb, if_pos h, h1 fun j hj => ?_]
      · exact add_step (hv n (by omega)) (hv (n + 1) (by omega))
      · subst hj; exact (hd j (by omega)).trans h
    refine ⟨fun h => top (h n rfl), fun h => ?_⟩
    by_cases hz : d n ≤ z
    · rw [top hz, overwrite, if_pos ⟨hz, h⟩]
    · rw [climb, if_neg hz, h2 (not_le.mp hz), overwrite, if_neg fun c => hz c.1]

/-- The sum past all nine interfaces is what the loop over the ten layers leaves, its last layer having no lower bound. -/
theorem climb_eq (hd : ∀ j < 8, d j ≤ d (j + 1)) (hv : ∀ j < 10, ∃ r : ℝ, v j = r) :
    climb z d v 9 = if d 8 ≤ z then v 9 else overwrite z d v 8 := by
  obtain ⟨h1, h2⟩ := climb_spec z d v hd hv 8 le_rfl
  rw [climb]
  by_cases hz : d 8 ≤ z
  · rw [if_pos hz, if_pos hz, h1 fun j hj => ?_]
    · exact add_step (hv 8 (by omega)) (hv 9 (by omega))
    · obtain rfl : j = 7 := by omega
      exact (hd 7 (by omega)).trans hz
  · rw [if_neg hz, if_neg hz, h2 (not_le.mp hz)]

/-- The sum depends on `z` through its comparisons with the interfaces alone. -/
theorem climb_congr {z z' : EReal} (n : ℕ) (h : ∀ j < n, d j ≤ z ↔ d j ≤ z') : climb z d v n = climb z' d v n := by
  induction n with
  | zero => rfl
  | succ n ih =>
    rw [climb, climb, ih fun j hj => h j (by omega)]
    by_cases hz : d n ≤ z
    · rw [if_pos hz, if_pos ((h n (by omega)).mp hz)]
    · rw [if_neg hz, if_neg fun c => hz ((h n (by omega)).mpr c)]

/-! ## The bins of 50 -/

/-- A depth of the table's range is a real number in it. -/
theorem real_of_range {z : EReal} (h0 : 0 ≤ z) (h1 : z < ((4000 : ℝ) : EReal)) : ∃ r : ℝ, z = r ∧ 0 ≤ r ∧ r < 4000 := by
  induction z with
  | bot => exact absurd h0 (by simp)
  | top => exact absurd h1 (by simp)
  | coe r => exact ⟨r, rfl, by exact_mod_cast h0, by exact_mod_cast h1⟩

/-- A depth below 4000 lies in one of 80 bins. -/
theorem bin_lt {r : ℝ} (h0 : 0 ≤ r) (h1 : r < 4000) : ⌊r / 50⌋₊ < 80 := by
  rw [Nat.floor_lt (by positivity)]
  have : r / 50 < 4000 / 50 := by gcongr
  norm_num at this ⊢
  exact this

/-- The index word of a depth is the number of its bin. -/
theorem word_toNat {r : ℝ} (h0 : 0 ≤ r) (h1 : r < 4000) :
    (Ideal.fptosi 32 ((r : EReal) * ((1 / 50 : ℝ) : EReal))).toNat = ⌊r / 50⌋₊ := by
  have e : (r : EReal) * ((1 / 50 : ℝ) : EReal) = ((r / 50 : ℝ) : EReal) := by
    rw [← EReal.coe_mul]; congr 1; ring
  have hn := bin_lt h0 h1
  have hf : ⌊r / 50⌋ = (⌊r / 50⌋₊ : ℤ) := (Int.natCast_floor_eq_floor (by positivity)).symm
  rw [e, Ideal.fptosi, Ideal.toIntClamped_coe, if_pos (by positivity), hf, BitVec.toNat_ofInt]
  omega

/-- An interface at a multiple of 50 (or at an infinity) is at or before a depth exactly when it is at or before the left
    end of the depth's bin. -/
theorem le_bin_iff {d : EReal} (hd : Ideal.liftRound Int.floor (Ideal.div d ((50 : ℝ) : EReal)) * ((50 : ℝ) : EReal) = d)
    {r : ℝ} (h0 : 0 ≤ r) : d ≤ ((⌊r / 50⌋₊ : ℝ) : EReal) * ((50 : ℝ) : EReal) ↔ d ≤ (r : EReal) := by
  rw [← EReal.coe_mul]
  induction d with
  | bot => simp
  | top => exact iff_of_false (EReal.coe_lt_top _).not_ge (EReal.coe_lt_top _).not_ge
  | coe x =>
    rw [Ideal.div_coe (by norm_num), ← EReal.coe_mul] at hd
    have hx : (⌊x * (1 / 50)⌋ : ℝ) * 50 = x := by
      have : ((((⌊x * (1 / 50)⌋ : ℤ) : ℝ) * 50 : ℝ) : EReal) = x := by rw [EReal.coe_mul]; exact hd
      exact_mod_cast this
    generalize ⌊x * (1 / 50)⌋ = k at hx
    subst hx
    rw [EReal.coe_le_coe_iff, EReal.coe_le_coe_iff, mul_le_mul_iff_left₀ (by norm_num : (0 : ℝ) < 50), ← le_div_iff₀ (by norm_num : (0 : ℝ) < 50),
      show (k : ℝ) ≤ r / 50 ↔ k ≤ ⌊r / 50⌋ from Int.le_floor.symm, ← Int.natCast_floor_eq_floor (by positivity : 0 ≤ r / 50)]
    exact_mod_cast Iff.rfl

end Cert.Proof.Layers

end
-- ==== Proof.Value.lean ====
/-
  The values in exact arithmetic: a run's table entry read at a depth's index word, and the reference's loop over the
  layers at that depth, are both what `Layers.climb_eq` equates; and each precondition as facts about the entries.
-/
module

public import proofs.«01_k».proof.Defs
public import proofs.«01_k».proof.Proof.IdealRun
public import proofs.«01_k».proof.Proof.RefRun
public import proofs.«01_k».proof.Proof.Layers
public import Idealize.ShloMosaic.Lib.IdealHost
public import Idealize.ShloMosaic.Lib.Pipeline.Value

@[expose] public section

noncomputable section

namespace Cert.Proof.Value

open Idealize.ShloMosaic
open Cert.Proof.KI (ixw tabAt TabOK GoodAt tabOf rowV stepV binVec lane lane_eq col)
open Cert.Proof.Layers
open Cert.KernelIdeal (S10 S16 S80 S8388608 S8388608x3)

/-- Entry `j` of a table of ten. -/
def at10 (a : S10.Idx → EReal) (j : ℕ) : EReal := a fun _ => ⟨j % 10, by
  rename_i b; rw [Subsingleton.elim b 0]; exact Nat.mod_lt _ (by decide)⟩

/-! ## The constants and the comparisons -/

/-- The float word of 50. -/
theorem bits_50 : Ideal.ofBits .f32 0x42480000#32 = ((50 : ℝ) : EReal) := by
  simp [Ideal.ofBits, Ideal.ieee, -EReal.coe_mul]; norm_num
/-- The float word of 4000. -/
theorem bits_4000 : Ideal.ofBits .f32 0x457A0000#32 = ((4000 : ℝ) : EReal) := by
  simp [Ideal.ofBits, Ideal.ieee, -EReal.coe_mul]; norm_num
/-- The float word of infinity. -/
theorem bits_inf : Ideal.ofBits .f32 0x7F800000#32 = ⊤ := by
  simp [Ideal.ofBits, Ideal.ieee]

/-- A truth value as a bit. -/
theorem ofBool_eq_one (p : Bool) : (BitVec.ofBool p = 1#1) ↔ p = true := by cases p <;> decide
/-- Both bits set. -/
theorem andi_one (a b : BitVec 1) : IntOp.andi a b = 1#1 ↔ a = 1#1 ∧ b = 1#1 := by
  revert a b; decide

/-- The comparison `≥` as a bit. -/
theorem oge_one (a b : Ideal .f32) : FloatOps.cmpf (F := Ideal) .oge a b = 1#1 ↔ (b : EReal) ≤ a :=
  (ofBool_eq_one _).trans decide_eq_true_iff
/-- The comparison `≤` as a bit. -/
theorem ole_one (a b : Ideal .f32) : FloatOps.cmpf (F := Ideal) .ole a b = 1#1 ↔ (a : EReal) ≤ b :=
  (ofBool_eq_one _).trans decide_eq_true_iff
/-- The comparison `<` as a bit. -/
theorem olt_one (a b : Ideal .f32) : FloatOps.cmpf (F := Ideal) .olt a b = 1#1 ↔ (a : EReal) < b :=
  (ofBool_eq_one _).trans decide_eq_true_iff
/-- The comparison `=` as a bit. -/
theorem oeq_one (a b : Ideal .f32) : FloatOps.cmpf (F := Ideal) .oeq a b = 1#1 ↔ (a : EReal) = b :=
  (ofBool_eq_one _).trans decide_eq_true_iff

/-- A choice by a bit is a choice by what the bit says. -/
theorem pick_if {c : BitVec 1} {P : Prop} [Decidable P] (h : c = 1#1 ↔ P) (x y : EReal) :
    Scalar.select c x y = if P then x else y := by
  show (if c = 1#1 then x else y) = _
  by_cases hP : P
  · rw [if_pos hP, if_pos (h.mpr hP)]
  · rw [if_neg hP, if_neg fun e => hP (h.mp e)]

/-! ## The table -/

/-- The left end of bin `n`, as the table's builder computes it. -/
theorem bin_val (n : ℕ) (hn : n < 80) (x : S16.Idx) (hx : (x 0).val = n % 16) :
    (binVec (F := Ideal) (n / 16) x : EReal) = (((n : ℕ) : ℝ) : EReal) * ((50 : ℝ) : EReal) := by
  have hi : (IntOp.addi (iota .scVector S16 32 [0] Cert.KernelIdeal.Gen.iota_S16_d0_w32_scVector x) (BitVec.ofNat 32 (16 * (n / 16)))).toInt = (n : ℤ) := by
    show (BitVec.ofNat 32 (0 * 16 + (x 0).val) + BitVec.ofNat 32 (16 * (n / 16))).toInt = _
    rw [hx, ← BitVec.ofNat_add, show 0 * 16 + n % 16 + 16 * (n / 16) = n by omega, BitVec.toInt_eq_toNat_cond, BitVec.toNat_ofNat]
    omega
  show (((IntOp.addi (iota .scVector S16 32 [0] Cert.KernelIdeal.Gen.iota_S16_d0_w32_scVector x) (BitVec.ofNat 32 (16 * (n / 16)))).toInt : ℝ) : EReal)
    * Ideal.ofBits .f32 0x42480000#32 = _
  rw [hi, bits_50]
  norm_cast

section Table

variable {v2 v3 : Vec Ideal S16 .f32} {vl dp : S10.Idx → EReal}
  (h2 : ∀ (l : S16.Idx) (j : S10.Idx), (l 0).val = (j 0).val → v2 l = vl j)
  (h3 : ∀ (l : S16.Idx) (j : S10.Idx), (l 0).val = (j 0).val → v3 l = dp j)

include h2 in
/-- A lane of the loaded register is the table of ten's entry. -/
theorem lane_at (n : ℕ) (h : n < 10) : (lane (F := Ideal) v2 n (by omega) : EReal) = at10 vl n := by
  rw [lane_eq v2 n (by omega) (fun a => ⟨n, by rw [Subsingleton.elim a 0]; show n < 16; omega⟩) rfl]
  exact h2 _ _ (Nat.mod_eq_of_lt h).symm

include h2 h3 in
/-- One step of the table's builder at a lane. -/
theorem step_at (c acc : FVec Ideal S16 .f32) (j : Fin 9) (x : S16.Idx) :
    (stepV (F := Ideal) v2 v3 c acc j x : EReal)
      = if at10 dp j.val ≤ c x then acc x + (at10 vl (j.val + 1) - at10 vl j.val) else acc x := by
  rw [← lane_at h3 j.val (by omega), ← lane_at h2 j.val (by omega), ← lane_at h2 (j.val + 1) (by omega)]
  exact pick_if (oge_one _ _) _ _

include h2 h3 in
/-- All nine steps at a lane are the climb through the layers. -/
theorem row_at (c : FVec Ideal S16 .f32) (x : S16.Idx) : (rowV (F := Ideal) v2 v3 c x : EReal) = climb (c x) (at10 dp) (at10 vl) 9 := by
  unfold rowV
  simp only [step_at h2 h3, climb]
  have e : (broadcast S16 (lane (F := Ideal) v2 0 (by omega)) x : EReal) = at10 vl 0 := lane_at h2 0 (by omega)
  rw [e]
  rfl

end Table

/-- The table's entry for the depth `r` is the velocity summed up at `r`. -/
theorem table_val {vl dp : S10.Idx → EReal} {f : S80.Idx → EReal} (hf : TabOK (F := Ideal) vl dp f)
    (hd : ∀ j < 9, Ideal.liftRound Int.floor (Ideal.div (at10 dp j) ((50 : ℝ) : EReal)) * ((50 : ℝ) : EReal) = at10 dp j)
    {r : ℝ} (h0 : 0 ≤ r) (h1 : r < 4000) (w : BitVec 32) (hw : w.toNat = ⌊r / 50⌋₊) :
    (tabAt (F := Ideal) f w : EReal) = climb (r : EReal) (at10 dp) (at10 vl) 9 := by
  obtain ⟨v2, v3, h2, h3, rfl⟩ := hf
  have hn := bin_lt h0 h1
  have hm : w.toNat % 80 = ⌊r / 50⌋₊ := by omega
  refine (row_at h2 h3 _ _).trans ?_
  have hb := bin_val _ hn (fun a => ⟨⌊r / 50⌋₊ % 16, by rw [Subsingleton.elim a 0]; exact Nat.mod_lt _ (by decide)⟩) rfl
  rw [← climb_congr (at10 dp) (at10 vl) 9 fun j hj => le_bin_iff (hd j hj) h0, ← hb]
  have e : ∀ k l : ℕ, k = l → (binVec (F := Ideal) (k / 16) fun a => ⟨k % 16, by rw [Subsingleton.elim a 0]; exact Nat.mod_lt _ (by decide)⟩)
      = binVec (F := Ideal) (l / 16) fun a => ⟨l % 16, by rw [Subsingleton.elim a 0]; exact Nat.mod_lt _ (by decide)⟩ := by
    rintro k _ rfl; rfl
  exact congrArg (fun c => climb c (at10 dp) (at10 vl) 9) (e _ _ hm)

/-- The index word of a depth of the table's range is its bin's number. -/
theorem ixw_val {r : ℝ} (h0 : 0 ≤ r) (h1 : r < 4000) : (ixw (F := Ideal) ((r : EReal) : Ideal .f32)).toNat = ⌊r / 50⌋₊ := by
  have e : Named.named (F := Ideal) Cert.KernelIdeal.κ "per_50" (φ := .f32) 0x3CA3D70A#32 = ((1 / 50 : ℝ) : EReal) :=
    IdealRules.named_const.ideal_named_scalar _ _ _ _ rfl
  rw [← word_toNat h0 h1, ← e]
  rfl

/-! ## The reference -/

/-- Entry `k` of a table of ten, as the reference takes it out and spreads it over the points. -/
def spread (a : FVec Ideal S10 .f32) (k : ℕ) (hs : S10.Slices ![k] Cert.ReferenceIdeal.S1) : FVec Ideal S8388608 .f32 :=
  broadcastInDim S8388608 ![] Cert.ReferenceIdeal.Gen.bcast_S_S8388608
    (shapeCast Cert.ReferenceIdeal.S_ (extractStridedSlice Cert.ReferenceIdeal.S1 ![k] a hs) Cert.ReferenceIdeal.Gen.shapeCasts_S1_S_)

/-- Its value at every point. -/
theorem spread_at (a : FVec Ideal S10 .f32) (k : ℕ) (hk : k < 10) (hs : S10.Slices ![k] Cert.ReferenceIdeal.S1) (p : S8388608.Idx) :
    (spread a k hs p : EReal) = at10 a k := by
  unfold spread
  rw [ValueIdx.broadcastInDim_scalar_apply]
  unfold shapeCast extractStridedSlice at10
  congr 1
  funext b
  obtain rfl : b = 0 := Subsingleton.elim _ _
  apply Fin.ext
  have h0 : ∀ i : Cert.ReferenceIdeal.S1.Idx, (i 0).val = 0 := fun i => by have := (i 0).isLt; change _ < 1 at this; omega
  exact (congrArg (k + ·) (h0 _)).trans (Nat.mod_eq_of_lt hk).symm

/-- The layers' lower ends: zero, then the upper ends but the last. -/
def tops (d : FVec Ideal S10 .f32) : FVec Ideal S10 .f32 :=
  concatenate S10 0 [⟨Cert.ReferenceIdeal.S1, broadcastInDim Cert.ReferenceIdeal.S1 ![] Cert.ReferenceIdeal.Gen.bcast_S_S1
      (constant Cert.ReferenceIdeal.S_ .f32 0x00000000#32)⟩,
    ⟨Cert.ReferenceIdeal.S9, extractStridedSlice Cert.ReferenceIdeal.S9 ![0] d Cert.ReferenceIdeal.Gen.slices_S10_S9_0⟩]
    Cert.ReferenceIdeal.Gen.concatenates_S1_S9_S10_d0

/-- A layer's lower end is the upper end of the one before. -/
theorem tops_at (d : FVec Ideal S10 .f32) (k : ℕ) (hk : k + 1 < 10) : at10 (tops d) (k + 1) = at10 d k := by
  unfold at10 tops
  refine (concatenate_pair_apply_right 0 _ _ Cert.ReferenceIdeal.Gen.concatenates_S1_S9_S10_d0 _ rfl rfl
    (fun b => ⟨k, by rw [Subsingleton.elim b 0]; show k < 9; omega⟩) (fun b hb => absurd (Subsingleton.elim _ _) hb) ?_).trans ?_
  · show k + 1 = (k + 1) % 10
    omega
  · unfold extractStridedSlice
    congr 1
    funext b
    obtain rfl : b = 0 := Subsingleton.elim _ _
    apply Fin.ext
    show 0 + k = k % 10
    omega

section Loop

variable (zf : FVec Ideal S8388608 .f32) (vl dp : FVec Ideal S10 .f32) (p : S8388608.Idx)

/-- The first layer of the reference at a point. -/
theorem first_layer (hs : S10.Slices ![0] Cert.ReferenceIdeal.S1) (hs' : S10.Slices ![0] Cert.ReferenceIdeal.S1) :
    (select (cmpf .ole zf (spread dp 0 hs)) (spread vl 0 hs')
      (broadcastInDim S8388608 ![] Cert.ReferenceIdeal.Gen.bcast_S_S8388608 (constant (F := Ideal) Cert.ReferenceIdeal.S_ .f32 0x00000000#32)) p : EReal)
      = overwrite (zf p) (at10 dp) (at10 vl) 0 := by
  refine (pick_if (ole_one _ _) _ _).trans ?_
  rw [spread_at dp 0 (by omega), spread_at vl 0 (by omega)]
  rw [overwrite, show (broadcastInDim S8388608 ![] Cert.ReferenceIdeal.Gen.bcast_S_S8388608
    (constant (F := Ideal) Cert.ReferenceIdeal.S_ .f32 0x00000000#32) p : EReal) = 0 from Ideal.ofBits_zero_f32]

/-- Each layer between. -/
theorem next_layer (k : ℕ) (hk : k + 1 < 10) (hs hs' hs'' : S10.Slices ![k + 1] Cert.ReferenceIdeal.S1) (acc : FVec Ideal S8388608 .f32)
    (hacc : (acc p : EReal) = overwrite (zf p) (at10 dp) (at10 vl) k) :
    (select (andi (cmpf .oge zf (spread (tops dp) (k + 1) hs)) (cmpf .olt zf (spread dp (k + 1) hs'))) (spread vl (k + 1) hs'') acc p : EReal)
      = overwrite (zf p) (at10 dp) (at10 vl) (k + 1) := by
  refine (pick_if ((andi_one _ _).trans (and_congr (oge_one _ _) (olt_one _ _))) _ _).trans ?_
  rw [spread_at _ _ hk, spread_at _ _ hk, spread_at _ _ hk, tops_at dp k hk, hacc, overwrite]

/-- The last layer, which reaches down without an end. -/
theorem last_layer (hs hs' : S10.Slices ![8 + 1] Cert.ReferenceIdeal.S1) (acc : FVec Ideal S8388608 .f32)
    (hacc : (acc p : EReal) = overwrite (zf p) (at10 dp) (at10 vl) 8) :
    (select (cmpf .oge zf (spread (tops dp) (8 + 1) hs)) (spread vl (8 + 1) hs') acc p : EReal)
      = if at10 dp 8 ≤ zf p then at10 vl 9 else overwrite (zf p) (at10 dp) (at10 vl) 8 := by
  refine (pick_if (oge_one _ _) _ _).trans ?_
  rw [spread_at _ _ (by omega), spread_at _ _ (by omega), tops_at dp 8 (by omega), hacc]

end Loop

/-- The reference's entry: the loop over the layers at the point's depth. -/
theorem reference_val (m : (ℓ : Loc Cert.ReferenceIdeal.nD Cert.ReferenceIdeal.τ Cert.ReferenceIdeal.sig) → Buf (Elt Ideal) ℓ)
    (c : Dev Cert.ReferenceIdeal.nD) (p : S8388608.Idx) (a : FVec Ideal S8388608x3 .f32) (vl dp : FVec Ideal S10 .f32)
    (ha : m ((c.tc : Thread Cert.ReferenceIdeal.nD Cert.ReferenceIdeal.τ).loc Cert.ReferenceIdeal.main_arg0) = a)
    (hv : m ((c.tc : Thread Cert.ReferenceIdeal.nD Cert.ReferenceIdeal.τ).loc Cert.ReferenceIdeal.main_arg1) = vl)
    (hd : m ((c.tc : Thread Cert.ReferenceIdeal.nD Cert.ReferenceIdeal.τ).loc Cert.ReferenceIdeal.main_arg2) = dp) :
    (Cert.Proof.Ref.res_out0 (F := Ideal) m c p : EReal)
      = if at10 dp 8 ≤ col (F := Ideal) a p then at10 vl 9 else overwrite (col (F := Ideal) a p) (at10 dp) (at10 vl) 8 := by
  unfold Cert.Proof.Ref.res_out0 Cert.Proof.Ref.res_main_v115
  rw [ha, hv, hd]
  refine last_layer (col (F := Ideal) a) vl dp p _ _ _ ?_
  refine next_layer (col (F := Ideal) a) vl dp p 7 (by omega) _ _ _ _ ?_
  refine next_layer (col (F := Ideal) a) vl dp p 6 (by omega) _ _ _ _ ?_
  refine next_layer (col (F := Ideal) a) vl dp p 5 (by omega) _ _ _ _ ?_
  refine next_layer (col (F := Ideal) a) vl dp p 4 (by omega) _ _ _ _ ?_
  refine next_layer (col (F := Ideal) a) vl dp p 3 (by omega) _ _ _ _ ?_
  refine next_layer (col (F := Ideal) a) vl dp p 2 (by omega) _ _ _ _ ?_
  refine next_layer (col (F := Ideal) a) vl dp p 1 (by omega) _ _ _ _ ?_
  refine next_layer (col (F := Ideal) a) vl dp p 0 (by omega) _ _ _ _ ?_
  exact first_layer (col (F := Ideal) a) vl dp p _ _

end Cert.Proof.Value

end
-- ==== Proof.Pres.lean ====
/-
  The preconditions as facts about the entries: every index word names a row of the table; in exact arithmetic every
  depth is a real number of the table's range, the layers' ends increase and lie on the table's grid, and the
  velocities are finite.
-/
module

public import proofs.«01_k».proof.Defs
public import proofs.«01_k».proof.Proof.KernelRun
public import proofs.«01_k».proof.Proof.Value

@[expose] public section

noncomputable section

namespace Cert.Proof.Pres

open Idealize.ShloMosaic
open Cert.Proof.KI (ixw col)
open Cert.Proof.Layers Cert.Proof.Value
open Cert.KernelIdeal (S10 S8388608 S8388608x3)

/-! ## The index words of floats -/

/-- A word from 0 to 79 as a signed number is below 80. -/
theorem row_of_range (w : BitVec 32) (h : IntOp.andi (IntOp.cmpi .sge w 0#32) (IntOp.cmpi .slt w 80#32) = 1#1) : w.toNat < 80 := by
  obtain ⟨h0, h1⟩ := (andi_one _ _).mp h
  replace h0 := (ofBool_eq_one _).mp h0
  replace h1 := (ofBool_eq_one _).mp h1
  simp only [BitVec.sle_eq_decide, BitVec.slt_eq_decide, decide_eq_true_eq, BitVec.toInt_eq_toNat_cond, BitVec.toNat_ofNat, Nat.reducePow, Nat.reduceMod] at h0 h1
  omega

/-- On floats, the precondition on the index words. -/
theorem ok_of_index [Cert.Pre_index_in_table.Facts]
    (m : (ℓ : Loc Cert.Kernel.nD Cert.Kernel.τ Cert.Kernel.sig) → Buf (Elt Bits) ℓ)
    (h : Cert.Pre_Kernel m) : Cert.Proof.KB.PreOK m := fun d p =>
  row_of_range _ (congrFun (h d) p)

/-- On floats, the same as a part of the joint precondition. -/
theorem ok_of_both [Cert.Pre_depth_and_index_in_range.Facts]
    (m : (ℓ : Loc Cert.Kernel.nD Cert.Kernel.τ Cert.Kernel.sig) → Buf (Elt Bits) ℓ)
    (h : Cert.Pre_Kernel_depth_and_index_in_range m) : Cert.Proof.KB.PreOK m := fun d p =>
  row_of_range _ (congrFun (h d).1 p)

/-! ## The depths in exact arithmetic -/

/-- A depth that passes the range test is a real number of the range. -/
theorem real_of_test (z : Ideal .f32)
    (h : IntOp.andi (FloatOps.cmpf (F := Ideal) .oge z (Ideal.ofBits .f32 0x00000000#32))
      (FloatOps.cmpf (F := Ideal) .olt z (Ideal.ofBits .f32 0x457A0000#32)) = 1#1) :
    ∃ r : ℝ, (z : EReal) = r ∧ 0 ≤ r ∧ r < 4000 := by
  obtain ⟨h0, h1⟩ := (andi_one _ _).mp h
  exact real_of_range (Ideal.ofBits_zero_f32 ▸ (oge_one _ _).mp h0) (bits_4000 ▸ (olt_one _ _).mp h1)

/-- Its index word names a row of the table. -/
theorem row_of_test (z : Ideal .f32)
    (h : IntOp.andi (FloatOps.cmpf (F := Ideal) .oge z (Ideal.ofBits .f32 0x00000000#32))
      (FloatOps.cmpf (F := Ideal) .olt z (Ideal.ofBits .f32 0x457A0000#32)) = 1#1) : (ixw (F := Ideal) z).toNat < 80 := by
  obtain ⟨r, hr, h0, h1⟩ := real_of_test z h
  obtain rfl : z = ((r : EReal) : Ideal .f32) := hr
  rw [ixw_val h0 h1]
  exact bin_lt h0 h1

variable (m : (ℓ : Loc Cert.KernelIdeal.nD Cert.KernelIdeal.τ Cert.KernelIdeal.sig) → Buf (Elt Ideal) ℓ)

/-- In exact arithmetic, the range of the depths is enough. -/
theorem ok_of_depth [Cert.Pre_depth_in_range.Facts] (h : Cert.Pre_KernelIdeal m) : Cert.Proof.KI.PreOK m := fun d p =>
  row_of_test _ (congrFun (h d) p)

/-- So is the joint precondition. -/
theorem ok_of_both_ideal [Cert.Pre_depth_and_index_in_range.Facts] (h : Cert.Pre_KernelIdeal_depth_and_index_in_range m) :
    Cert.Proof.KI.PreOK m := fun d p => row_of_test _ (congrFun (h d).2 p)

/-- So is the precondition of the value claim. -/
theorem ok_of_layered [Cert.Pre_layered.Facts] (h : Cert.Pre_KernelIdeal_layered m) : Cert.Proof.KI.PreOK m := fun d p =>
  row_of_test _ (congrFun (h d).1 p)

/-! ## The layers -/

/-- The depth of point `p`. -/
def depthAt (c : Dev Cert.KernelIdeal.nD) (p : S8388608.Idx) : EReal := Cert.Proof.KI.zval m c p
/-- The layers' ends. -/
def endsAt (c : Dev Cert.KernelIdeal.nD) : ℕ → EReal := at10 (m (Cert.Proof.KI.depLoc c))
/-- The layers' velocities. -/
def velocityAt (c : Dev Cert.KernelIdeal.nD) : ℕ → EReal := at10 (m (Cert.Proof.KI.velLoc c))

/-- Entry `j` of a slice of a table of ten. -/
theorem slice_at (a : S10.Idx → EReal) (n s : ℕ) (hs : S10.Slices ![s] ⟨1, ![n]⟩) (j : ℕ) (hj : j < n) (hk : s + j < 10) :
    extractStridedSlice ⟨1, ![n]⟩ ![s] a hs (fun b => ⟨j, by rw [Subsingleton.elim b 0]; exact hj⟩) = at10 a (s + j) := by
  unfold at10 extractStridedSlice
  congr 1
  funext b
  obtain rfl : b = 0 := Subsingleton.elim _ _
  exact Fin.ext (Nat.mod_eq_of_lt hk).symm

section Layered

variable [Cert.Pre_layered.Facts] (h : Cert.Pre_KernelIdeal_layered m) (c : Dev Cert.KernelIdeal.nD)

include h

/-- Every depth is a real number of the range. -/
theorem depth_real (p : S8388608.Idx) : ∃ r : ℝ, depthAt m c p = r ∧ 0 ≤ r ∧ r < 4000 :=
  real_of_test _ (congrFun (h c).1 p)

/-- The layers' ends are in order. -/
theorem ends_le (j : ℕ) (hj : j < 8) : endsAt m c j ≤ endsAt m c (j + 1) := by
  have e := (ole_one _ _).mp (congrFun (h c).2.1 fun a => ⟨j, by rw [Subsingleton.elim a 0]; exact hj⟩)
  have e0 := slice_at (m (Cert.Proof.KI.depLoc c)) 8 0 Cert.Pre_layered.Facts.slices_S10_S8_0 j hj (by omega)
  have e1 := slice_at (m (Cert.Proof.KI.depLoc c)) 8 1 Cert.Pre_layered.Facts.slices_S10_S8_1 j hj (by omega)
  rw [Nat.zero_add] at e0
  rw [Nat.add_comm] at e1
  exact e0.symm.trans_le (le_of_le_of_eq e e1)

/-- The layers' ends are multiples of 50. -/
theorem ends_grid (j : ℕ) (hj : j < 9) :
    Ideal.liftRound Int.floor (Ideal.div (endsAt m c j) ((50 : ℝ) : EReal)) * ((50 : ℝ) : EReal) = endsAt m c j := by
  have e := (oeq_one _ _).mp (congrFun (h c).2.2.1 fun a => ⟨j, by rw [Subsingleton.elim a 0]; exact hj⟩)
  have e0 := slice_at (m (Cert.Proof.KI.depLoc c)) 9 0 Cert.Pre_layered.Facts.slices_S10_S9_0 j hj (by omega)
  rw [Nat.zero_add] at e0
  unfold endsAt
  rw [← e0, ← bits_50]
  exact e

/-- The velocities are real numbers. -/
theorem velocity_real (j : ℕ) (hj : j < 10) : ∃ r : ℝ, velocityAt m c j = r := by
  have e := (olt_one _ _).mp (congrFun (h c).2.2.2 fun b => ⟨j % 10, by rw [Subsingleton.elim b 0]; exact Nat.mod_lt _ (by decide)⟩)
  have e' : max (velocityAt m c j) (-(velocityAt m c j)) < (⊤ : EReal) := bits_inf ▸ e
  generalize velocityAt m c j = x at e' ⊢
  induction x with
  | bot => simp at e'
  | top => simp at e'
  | coe r => exact ⟨r, rfl⟩

/-- What a run of the kernel leaves at a point is the loop over the layers at the point's depth. -/
theorem good_val (p : S8388608.Idx) (v : Ideal .f32) (hv : Cert.Proof.KI.Good m c p v) :
    v = if endsAt m c 8 ≤ depthAt m c p then velocityAt m c 9
      else overwrite (depthAt m c p) (endsAt m c) (velocityAt m c) 8 := by
  obtain ⟨f, hf, rfl⟩ := hv
  obtain ⟨r, hr, h0, h1⟩ := depth_real m h c p
  have hw : (ixw (F := Ideal) (depthAt m c p)).toNat = ⌊r / 50⌋₊ := by rw [hr]; exact ixw_val h0 h1
  refine (table_val hf (ends_grid m h c) h0 h1 _ hw).trans ?_
  rw [hr]
  exact climb_eq _ _ _ (ends_le m h c) (velocity_real m h c)

end Layered

end Cert.Proof.Pres

end
-- ==== Proof.lean ====
/-
  The claims of this certificate: the kernel's frames on floats and in exact arithmetic, the reference's, the named
  constant, and the equality of the two outputs in exact arithmetic.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_index_in_table
public import proofs.«01_k».proof.Proof.Gen.Pre_depth_and_index_in_range
public import proofs.«01_k».proof.Proof.Gen.Pre_depth_in_range
public import proofs.«01_k».proof.Proof.Gen.Pre_layered
public import proofs.«01_k».proof.Proof.KernelRun
public import proofs.«01_k».proof.Proof.IdealRun
public import proofs.«01_k».proof.Proof.RefRun
public import proofs.«01_k».proof.Proof.Value
public import proofs.«01_k».proof.Proof.Pres
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- A run of the kernel on floats whose index words name rows of the table ends, the arguments as they were and every semaphore at zero. -/
theorem frame_kernel (m : (ℓ : Loc Cert.Kernel.nD Cert.Kernel.τ Cert.Kernel.sig) → Buf (Elt Bits) ℓ) (g : Dev Cert.Kernel.nD → PrngReg)
    (h : Cert.Proof.KB.PreOK m) :
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0) :=
  (θ_run (Cert.Kernel.defs (F := Bits)) _ _).mono (fun _ hr => ⟨fun c => (hr.1 c).2, hr.2⟩) (Cert.Proof.KB.run_main m g h)

/-- The same in exact arithmetic. -/
theorem frame_ideal (m : (ℓ : Loc Cert.KernelIdeal.nD Cert.KernelIdeal.τ Cert.KernelIdeal.sig) → Buf (Elt Ideal) ℓ)
    (g : Dev Cert.KernelIdeal.nD → PrngReg) (h : Cert.Proof.KI.PreOK m) :
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) :=
  (θ_run (Cert.KernelIdeal.defs (F := Ideal)) _ _).mono (fun _ hr => ⟨fun c => (hr.1 c).2, hr.2⟩) (Cert.Proof.KI.run_main m g h)

/-- The reference ends, its arguments as they were; it has no semaphore. -/
theorem frame_reference : Cert.quiescent_ReferenceIdeal := fun m g _ =>
  (θ_run (Cert.ReferenceIdeal.defs (F := Ideal)) _ _).mono
    (fun r hr => ⟨fun c => (hr c).2, sem_eq_zero_of_no_sems (by decide) r.2⟩) (Cert.Proof.Ref.run m g)

/-- In exact arithmetic the kernel and the reference leave the same output. -/
theorem same_value [Cert.Pre_layered.Facts] : Cert.algebraic_KernelIdeal_ReferenceIdeal_pre_layered := by
  intro m g m' g' hpre hargs
  refine ⟨fun c => Cert.Proof.Ref.res_out0 (F := Ideal) m' c, ?_, Cert.Proof.Ref.run m' g'⟩
  refine (θ_run (Cert.KernelIdeal.defs (F := Ideal)) _ _).mono (fun r hr c => ⟨funext fun p => ?_, (hr.1 c).2⟩)
    (Cert.Proof.KI.run_main m g (Cert.Proof.Pres.ok_of_layered m hpre))
  obtain ⟨h0, h1, h2⟩ := hargs c
  exact (Cert.Proof.Pres.good_val m hpre c p _ ((hr.1 c).1 p)).trans (Cert.Proof.Value.reference_val m' c p _ _ _ h0 h1 h2).symm

/-- All the claims. -/
theorem claim : Cert.Claim := ⟨Cert.Kernel.Gen.facts, Cert.KernelIdeal.Gen.facts, Cert.ReferenceIdeal.Gen.facts, Cert.Pre_index_in_table.Gen.facts, Cert.Pre_depth_and_index_in_range.Gen.facts, Cert.Pre_depth_in_range.Gen.facts, Cert.Pre_layered.Gen.facts,
  fun m g h => frame_kernel m g (Cert.Proof.Pres.ok_of_index m h),
  fun m g h => frame_kernel m g (Cert.Proof.Pres.ok_of_both m h),
  fun m g h => frame_ideal m g (Cert.Proof.Pres.ok_of_depth m h),
  fun m g h => frame_ideal m g (Cert.Proof.Pres.ok_of_both_ideal m h),
  fun m g h => frame_ideal m g (Cert.Proof.Pres.ok_of_layered m h),
  frame_reference,
  fun m g _ => frame_reference m g trivial,
  IdealRules.named_const.statement Cert.KernelIdeal.κ "per_50" .f32 0x3CA3D70A#32 ((1 / 50 : ℝ) : EReal) rfl,
  same_value⟩

end Cert.Proof

end
